-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x512x65x256 : Shape := ⟨4, ![8, 512, 65, 256]⟩
abbrev S8x64 : Shape := ⟨2, ![8, 64]⟩
abbrev S8 : Shape := ⟨1, ![8]⟩
abbrev S_ : Shape := ⟨0, ![]⟩

class Facts : Prop where
  bcast_S_S8x512x65x256 : S_.BroadcastsInDim S8x512x65x256 (![] : Fin 0 → Fin S8x512x65x256.rank)
  reducesTo_S8x512x65x256_S_d0_1_2_3 : S8x512x65x256.ReducesTo [0, 1, 2, 3] S_
  h_S_ : 0 < S_.numel
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg3 : IVec S8 32) (main_v10 : IVec S_ 1) (main_v15 : IVec S8 1) (main_c_5 : IVec S_ 1) : IVec S_ 1 :=
  let main_v16 : IVec S_ 1 := (fun x v => Host.reduce IntOp.andi x v reducesTo_S8_S_d0 h_S_) main_v15 main_c_5
  let main_v17 : IVec S_ 1 := andi main_v10 main_v16
  let main_c_6 : IVec S_ 32 := constantI S_ 32 0#32
  let main_v18 : IVec S8 32 := broadcastInDim S8 ![] bcast_S_S8 main_c_6
  let main_v19 : IVec S8 1 := cmpi .sge main_arg3 main_v18
  let main_c_7 : IVec S_ 32 := constantI S_ 32 65#32
  let main_v20 : IVec S8 32 := broadcastInDim S8 ![] bcast_S_S8 main_c_7
  let main_v21 : IVec S8 1 := cmpi .slt main_arg3 main_v20
  let main_v22 : IVec S8 1 := andi main_v19 main_v21
  let main_c_8 : IVec S_ 1 := constantI S_ 1 1#1
  let main_v23 : IVec S_ 1 := (fun x v => Host.reduce IntOp.andi x v reducesTo_S8_S_d0 h_S_) main_v22 main_c_8
  let main_v24 : IVec S_ 1 := andi main_v17 main_v23
  main_v24

def fn {F : FTy → Type} [FloatOps F] (main_arg0 : FVec F S8x512x65x256 .f32) (main_arg1 : IVec S8x64 32) (main_arg2 : IVec S8 32) (main_arg3 : IVec S8 32) : IVec S_ 1 :=
  let main_v0 : FVec F S8x512x65x256 .f32 := Host.absf main_arg0
  let main_cst : FVec F S_ .f32 := constant S_ .f32 0x7F800000#32
  let main_v1 : FVec F S8x512x65x256 .f32 := broadcastInDim S8x512x65x256 ![] bcast_S_S8x512x65x256 main_cst
  let main_v2 : IVec S8x512x65x256 1 := cmpf .olt main_v0 main_v1
  let main_c : IVec S_ 1 := constantI S_ 1 1#1
  let main_v3 : IVec S_ 1 := (fun x v => Host.reduce IntOp.andi x v reducesTo_S8x512x65x256_S_d0_1_2_3 h_S_) main_v2 main_c
  let main_c_0 : IVec S_ 32 := constantI S_ 32 0#32
  let main_v4 : IVec S8x64 32 := broadcastInDim S8x64 ![] bcast_S_S8x64 main_c_0
  let main_v5 : IVec S8x64 1 := cmpi .sge main_arg1 main_v4
  let main_c_1 : IVec S_ 32 := constantI S_ 32 256#32
  let main_v6 : IVec S8x64 32 := broadcastInDim S8x64 ![] bcast_S_S8x64 main_c_1
  let main_v7 : IVec S8x64 1 := cmpi .slt main_arg1 main_v6
  let main_v8 : IVec S8x64 1 := andi main_v5 main_v7
  let main_c_2 : IVec S_ 1 := constantI S_ 1 1#1
  let main_v9 : IVec S_ 1 := (fun x v => Host.reduce IntOp.andi x v reducesTo_S8x64_S_d0_1 h_S_) main_v8 main_c_2
  let main_v10 : IVec S_ 1 := andi main_v3 main_v9
  let main_c_3 : IVec S_ 32 := constantI S_ 32 1#32
  let main_v11 : IVec S8 32 := broadcastInDim S8 ![] bcast_S_S8 main_c_3
  let main_v12 : IVec S8 1 := cmpi .sge main_arg2 main_v11
  let main_c_4 : IVec S_ 32 := constantI S_ 32 512#32
  let main_v13 : IVec S8 32 := broadcastInDim S8 ![] bcast_S_S8 main_c_4
  let main_v14 : IVec S8 1 := cmpi .sle main_arg2 main_v13
  let main_v15 : IVec S8 1 := andi main_v12 main_v14
  let main_c_5 : IVec S_ 1 := constantI S_ 1 1#1
  fn_part1 (F := F) main_arg3 main_v10 main_v15 main_c_5
-- ==== Kernel.lean ====
abbrev S8x512x65x256 : Shape := ⟨4, ![8, 512, 65, 256]⟩
abbrev S8x64 : Shape := ⟨2, ![8, 64]⟩
abbrev S8 : Shape := ⟨1, ![8]⟩
abbrev S8x1 : Shape := ⟨2, ![8, 1]⟩
abbrev S8x64x1 : Shape := ⟨3, ![8, 64, 1]⟩
abbrev S256 : Shape := ⟨1, ![256]⟩
abbrev S1x1x256 : Shape := ⟨3, ![1, 1, 256]⟩
abbrev S8x64x256 : Shape := ⟨3, ![8, 64, 256]⟩
abbrev S1x1 : Shape := ⟨2, ![1, 1]⟩
abbrev S8x16x65x256 : Shape := ⟨4, ![8, 16, 65, 256]⟩
abbrev S8x65 : Shape := ⟨2, ![8, 65]⟩
abbrev S8x1x65x256 : Shape := ⟨4, ![8, 1, 65, 256]⟩
abbrev S8x65x256 : Shape := ⟨3, ![8, 65, 256]⟩
abbrev S8x65x128 : Shape := ⟨3, ![8, 65, 128]⟩
abbrev S8x65x1 : Shape := ⟨3, ![8, 65, 1]⟩
abbrev S8x64x128 : Shape := ⟨3, ![8, 64, 128]⟩
abbrev S8x2 : Shape := ⟨2, ![8, 2]⟩
abbrev S8x63 : Shape := ⟨2, ![8, 63]⟩
abbrev S8x4 : Shape := ⟨2, ![8, 4]⟩
abbrev S8x61 : Shape := ⟨2, ![8, 61]⟩
abbrev S8x8 : Shape := ⟨2, ![8, 8]⟩
abbrev S8x57 : Shape := ⟨2, ![8, 57]⟩
abbrev S8x16 : Shape := ⟨2, ![8, 16]⟩
abbrev S8x49 : Shape := ⟨2, ![8, 49]⟩
abbrev S8x32 : Shape := ⟨2, ![8, 32]⟩
abbrev S8x33 : Shape := ⟨2, ![8, 33]⟩
abbrev S1x8x65 : Shape := ⟨3, ![1, 8, 65]⟩
abbrev S1 : Shape := ⟨1, ![1]⟩
abbrev S1x1x1 : Shape := ⟨3, ![1, 1, 1]⟩

abbrev nBuf : Space → Nat
  | .hbm => 14
  | .vmem => 9
  | .smem => 0
  | _ => 0

abbrev bufTy : (tb : Table) → Fin (tcTables nBuf tb) → BufTy
  | .hbm, ⟨0, _⟩ => ⟨S8x512x65x256, .f32⟩
  | .hbm, ⟨1, _⟩ => ⟨S8x64, .i32⟩
  | .hbm, ⟨2, _⟩ => ⟨S8, .i32⟩
  | .hbm, ⟨3, _⟩ => ⟨S8, .i32⟩
  | .hbm, ⟨4, _⟩ => ⟨S8x1, .i32⟩
  | .hbm, ⟨5, _⟩ => ⟨S8x1, .i32⟩
  | .hbm, ⟨6, _⟩ => ⟨S8x64x1, .i32⟩
  | .hbm, ⟨7, _⟩ => ⟨S256, .i32⟩
  | .hbm, ⟨8, _⟩ => ⟨S1x1x256, .i32⟩
  | .hbm, ⟨9, _⟩ => ⟨S8x64x256, .i32⟩
  | .hbm, ⟨10, _⟩ => ⟨S8x64x256, .i32⟩
  | .hbm, ⟨11, _⟩ => ⟨S8x64x256, .i1⟩
  | .hbm, ⟨12, _⟩ => ⟨S8x64x256, .f32⟩
  | .hbm, ⟨13, _⟩ => ⟨S1x1, .f32⟩
  | .local _ .vmem, ⟨0, _⟩ => ⟨S8x1, .i32⟩
  | .local _ .vmem, ⟨1, _⟩ => ⟨S8x1, .i32⟩
  | .local _ .vmem, ⟨2, _⟩ => ⟨S8x64x256, .f32⟩
  | .local _ .vmem, ⟨3, _⟩ => ⟨S8x16x65x256, .f32⟩
  | .local _ .vmem, ⟨4, _⟩ => ⟨S8x16x65x256, .f32⟩
  | .local _ .vmem, ⟨5, _⟩ => ⟨S1x1, .f32⟩
  | .local _ .vmem, ⟨6, _⟩ => ⟨S8x65, .f32⟩
  | .local _ .vmem, ⟨7, _⟩ => ⟨S8x65, .f32⟩
  | .local _ .vmem, ⟨8, _⟩ => ⟨S8x65, .f32⟩
  | _, _ => ⟨S8x512x65x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x65x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "neg" => some ⊥
  | _ => none
-- ==== ReferenceIdeal.lean ====
abbrev S8x512x65x256 : Shape := ⟨4, ![8, 512, 65, 256]⟩
abbrev S8x64 : Shape := ⟨2, ![8, 64]⟩
abbrev S8 : Shape := ⟨1, ![8]⟩
abbrev S_ : Shape := ⟨0, ![]⟩
abbrev S8x512x65 : Shape := ⟨3, ![8, 512, 65]⟩
abbrev S8x512x65x1 : Shape := ⟨4, ![8, 512, 65, 1]⟩
abbrev S8x512x64x256 : Shape := ⟨4, ![8, 512, 64, 256]⟩
abbrev S8x1x64x1 : Shape := ⟨4, ![8, 1, 64, 1]⟩
abbrev S8x64x1x1 : Shape := ⟨4, ![8, 64, 1, 1]⟩
abbrev S8x512x64x1 : Shape := ⟨4, ![8, 512, 64, 1]⟩
abbrev S8x512x64 : Shape := ⟨3, ![8, 512, 64]⟩
abbrev S8x1x1 : Shape := ⟨3, ![8, 1, 1]⟩
abbrev S8x1 : Shape := ⟨2, ![8, 1]⟩
abbrev S8x33280 : Shape := ⟨2, ![8, 33280]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x512x65x256, .f32⟩
  | .hbm, ⟨1, _⟩ => ⟨S8x64, .i32⟩
  | .hbm, ⟨2, _⟩ => ⟨S8, .i32⟩
  | .hbm, ⟨3, _⟩ => ⟨S8, .i32⟩
  | .hbm, ⟨4, _⟩ => ⟨S_, .f32⟩
  | .hbm, ⟨5, _⟩ => ⟨S8x512x65, .f32⟩
  | .hbm, ⟨6, _⟩ => ⟨S_, .f32⟩
  | .hbm, ⟨7, _⟩ => ⟨S8x512x65, .f32⟩
  | .hbm, ⟨8, _⟩ => ⟨S8x512x65, .f32⟩
  | .hbm, ⟨9, _⟩ => ⟨S8x512x65x1, .f32⟩
  | .hbm, ⟨10, _⟩ => ⟨S8x512x65x256, .f32⟩
  | .hbm, ⟨11, _⟩ => ⟨S8x512x65x256, .f32⟩
  | .hbm, ⟨12, _⟩ => ⟨S8x512x65x256, .f32⟩
  | .hbm, ⟨13, _⟩ => ⟨S_, .f32⟩
  | .hbm, ⟨14, _⟩ => ⟨S8x512x65, .f32⟩
  | .hbm, ⟨15, _⟩ => ⟨S8x512x65x1, .f32⟩
  | .hbm, ⟨16, _⟩ => ⟨S8x512x65x1, .f32⟩
  | .hbm, ⟨17, _⟩ => ⟨S8x512x65x256, .f32⟩
  | .hbm, ⟨18, _⟩ => ⟨S8x512x65x256, .f32⟩
  | .hbm, ⟨19, _⟩ => ⟨S8x512x65x1, .f32⟩
  | .hbm, ⟨20, _⟩ => ⟨S8x512x65, .f32⟩
  | .hbm, ⟨21, _⟩ => ⟨S8x512x64x256, .f32⟩
  | .hbm, ⟨22, _⟩ => ⟨S8x1x64x1, .i32⟩
  | .hbm, ⟨23, _⟩ => ⟨S8x64x1x1, .i32⟩
  | .hbm, ⟨24, _⟩ => ⟨S8x512x64x1, .f32⟩
  | .hbm, ⟨25, _⟩ => ⟨S8x512x64, .f32⟩
  | .hbm, ⟨26, _⟩ => ⟨S_, .f32⟩
  | .hbm, ⟨27, _⟩ => ⟨S8x512x65, .f32⟩
  | .hbm, ⟨28, _⟩ => ⟨S_, .i32⟩
  | .hbm, ⟨29, _⟩ => ⟨S_, .i32⟩
  | .hbm, ⟨30, _⟩ => ⟨S8x512x65, .f32⟩
  | .hbm, ⟨31, _⟩ => ⟨S8x512x64, .f32⟩
  | .hbm, ⟨32, _⟩ => ⟨S_, .i32⟩
  | .hbm, ⟨33, _⟩ => ⟨S_, .i32⟩
  | .hbm, ⟨34, _⟩ => ⟨S8x512x65, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S8x1x1, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S8x1x1, .f32⟩
  | .hbm, ⟨51, _⟩ => ⟨S8x1x1, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S8x1x1, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S8x1x1, .f32⟩
  | .hbm, ⟨60, _⟩ => ⟨S8x1x1, .f32⟩
  | .hbm, ⟨61, _⟩ => ⟨S_, .i32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S8x1x1, .f32⟩
  | .hbm, ⟨66, _⟩ => ⟨S8x1x1, .f32⟩
  | .hbm, ⟨67, _⟩ => ⟨S_, .i32⟩
  | .hbm, ⟨68, _⟩ => ⟨S_, .i1⟩
  | .hbm, ⟨69, _⟩ => ⟨S8x1x1, .f32⟩
  | .hbm, ⟨70, _⟩ => ⟨S8x1x1, .f32⟩
  | .hbm, ⟨71, _⟩ => ⟨S8x1x1, .i1⟩
  | .hbm, ⟨72, _⟩ => ⟨S8x1x1, .f32⟩
  | .hbm, ⟨73, _⟩ => ⟨S8x1x1, .f32⟩
  | .hbm, ⟨74, _⟩ => ⟨S8x1x1, .f32⟩
  | .hbm, ⟨75, _⟩ => ⟨S8x1x1, .f32⟩
  | .hbm, ⟨76, _⟩ => ⟨S8x1x1, .f32⟩
  | .hbm, ⟨77, _⟩ => ⟨S8x1x1, .f32⟩
  | .hbm, ⟨78, _⟩ => ⟨S8x1x1, .f32⟩
  | .hbm, ⟨79, _⟩ => ⟨S8x1x1, .f32⟩
  | .hbm, ⟨80, _⟩ => ⟨S_, .i32⟩
  | .hbm, ⟨81, _⟩ => ⟨S_, .i1⟩
  | .hbm, ⟨82, _⟩ => ⟨S8x1x1, .f32⟩
  | .hbm, ⟨83, _⟩ => ⟨S_, .i32⟩
  | .hbm, ⟨84, _⟩ => ⟨S8x512x65, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S8, .i32⟩
  | .hbm, ⟨89, _⟩ => ⟨S8, .i32⟩
  | .hbm, ⟨90, _⟩ => ⟨S_, .i32⟩
  | .hbm, ⟨91, _⟩ => ⟨S8, .i32⟩
  | .hbm, ⟨92, _⟩ => ⟨S8, .i32⟩
  | .hbm, ⟨93, _⟩ => ⟨S8, .i32⟩
  | .hbm, ⟨94, _⟩ => ⟨S8x1, .i32⟩
  | .hbm, ⟨95, _⟩ => ⟨S8x512x65, .f32⟩
  | .hbm, ⟨96, _⟩ => ⟨S8x33280, .f32⟩
  | .hbm, ⟨97, _⟩ => ⟨S8x1x1, .i32⟩
  | .hbm, ⟨98, _⟩ => ⟨S8x1, .f32⟩
  | .hbm, ⟨99, _⟩ => ⟨S8x1, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1x1, .f32⟩
  | _, _ => ⟨S8x512x65x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_c : Ref sig .tc := ⟨.hbm, 28, rfl⟩
abbrev main_c_0 : Ref sig .tc := ⟨.hbm, 29, rfl⟩
abbrev main_v8_0 : Ref sig .tc := ⟨.hbm, 30, rfl⟩
abbrev main_v8_1 : Ref sig .tc := ⟨.hbm, 31, rfl⟩
abbrev main_v8_2 : Ref sig .tc := ⟨.hbm, 32, rfl⟩
abbrev main_v8_3 : Ref sig .tc := ⟨.hbm, 33, rfl⟩
abbrev main_v8_4 : Ref sig .tc := ⟨.hbm, 34, rfl⟩
abbrev main_while0c_c_9 : Ref sig .tc := ⟨.hbm, 35, rfl⟩
abbrev main_while0c_v22 : Ref sig .tc := ⟨.hbm, 36, rfl⟩
abbrev main_while0b_c_9 : Ref sig .tc := ⟨.hbm, 37, rfl⟩
abbrev main_while0b_v22 : Ref sig .tc := ⟨.hbm, 38, rfl⟩
abbrev main_while0b_c_10 : Ref sig .tc := ⟨.hbm, 39, rfl⟩
abbrev main_while0b_v23 : Ref sig .tc := ⟨.hbm, 40, rfl⟩
abbrev main_while0b_c_11 : Ref sig .tc := ⟨.hbm, 41, rfl⟩
abbrev main_while0b_v24 : Ref sig .tc := ⟨.hbm, 42, rfl⟩
abbrev main_while0b_c_12 : Ref sig .tc := ⟨.hbm, 43, rfl⟩
abbrev main_while0b_v25 : Ref sig .tc := ⟨.hbm, 44, rfl⟩
abbrev main_while0b_c_13 : Ref sig .tc := ⟨.hbm, 45, rfl⟩
abbrev main_while0b_v26 : Ref sig .tc := ⟨.hbm, 46, rfl⟩
abbrev main_while0b_c_14 : Ref sig .tc := ⟨.hbm, 47, rfl⟩
abbrev main_while0b_v27 : Ref sig .tc := ⟨.hbm, 48, rfl⟩
abbrev main_while0b_c_15 : Ref sig .tc := ⟨.hbm, 49, rfl⟩
abbrev main_while0b_v28 : Ref sig .tc := ⟨.hbm, 50, rfl⟩
abbrev main_while0b_v29 : Ref sig .tc := ⟨.hbm, 51, rfl⟩
abbrev main_while0b_c_16 : Ref sig .tc := ⟨.hbm, 52, rfl⟩
abbrev main_while0b_v30 : Ref sig .tc := ⟨.hbm, 53, rfl⟩
abbrev main_while0b_c_17 : Ref sig .tc := ⟨.hbm, 54, rfl⟩
abbrev main_while0b_v31 : Ref sig .tc := ⟨.hbm, 55, rfl⟩
abbrev main_while0b_c_18 : Ref sig .tc := ⟨.hbm, 56, rfl⟩
abbrev main_while0b_v32 : Ref sig .tc := ⟨.hbm, 57, rfl⟩
abbrev main_while0b_c_19 : Ref sig .tc := ⟨.hbm, 58, rfl⟩
abbrev main_while0b_v33 : Ref sig .tc := ⟨.hbm, 59, rfl⟩
abbrev main_while0b_v34 : Ref sig .tc := ⟨.hbm, 60, rfl⟩
abbrev main_while0b_c_20 : Ref sig .tc := ⟨.hbm, 61, rfl⟩
abbrev main_while0b_v35 : Ref sig .tc := ⟨.hbm, 62, rfl⟩
abbrev main_while0b_cst_21 : Ref sig .tc := ⟨.hbm, 63, rfl⟩
abbrev main_while0b_call2_v0 : Ref sig .tc := ⟨.hbm, 64, rfl⟩
abbrev main_while0b_call2_v1 : Ref sig .tc := ⟨.hbm, 65, rfl⟩
abbrev main_while0b_v36 : Ref sig .tc := ⟨.hbm, 66, rfl⟩
abbrev main_while0b_c_22 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_c_23 : Ref sig .tc := ⟨.hbm, 80, rfl⟩
abbrev main_while0b_v49 : Ref sig .tc := ⟨.hbm, 81, rfl⟩
abbrev main_while0b_v50 : Ref sig .tc := ⟨.hbm, 82, rfl⟩
abbrev main_while0b_c_24 : Ref sig .tc := ⟨.hbm, 83, rfl⟩
abbrev main_while0b_v51 : Ref sig .tc := ⟨.hbm, 84, rfl⟩
abbrev main_while0b_c_25 : Ref sig .tc := ⟨.hbm, 85, rfl⟩
abbrev main_while0b_v52 : Ref sig .tc := ⟨.hbm, 86, rfl⟩
abbrev main_c_1 : Ref sig .tc := ⟨.hbm, 87, rfl⟩
abbrev main_v9 : Ref sig .tc := ⟨.hbm, 88, rfl⟩
abbrev main_v10 : Ref sig .tc := ⟨.hbm, 89, rfl⟩
abbrev main_c_2 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_call5_v0 : Ref sig .tc := ⟨.hbm, 97, rfl⟩
abbrev main_v17 : Ref sig .tc := ⟨.hbm, 98, rfl⟩
abbrev main_v18 : Ref sig .tc := ⟨.hbm, 99, rfl⟩
abbrev main_cst_3 : Ref sig .tc := ⟨.hbm, 100, rfl⟩
abbrev main_v19 : Ref sig .tc := ⟨.hbm, 101, rfl⟩
abbrev main_cst_4 : Ref sig .tc := ⟨.hbm, 102, rfl⟩
abbrev main_v20 : Ref sig .tc := ⟨.hbm, 103, rfl⟩
abbrev main_v21 : Ref sig .tc := ⟨.hbm, 104, rfl⟩

abbrev nD : Nat := 1
abbrev τ : Topo := Topo.v7x

variable {F : FTy → Type} [FloatOps F]

abbrev main_while0_count : Scf.Loop 32 := ⟨0#32, 33280#32, 1#32⟩
-- ==== Proof.Original.lean ====
/-
  The original program's frame, at any floats: its body runs at every grid point from any contents of its buffers and
  leaves its inputs as they were. What it computes is not followed here.
-/
module

public import proofs.«01_k».proof.Proof.Gen.Kernel.Frame
public import proofs.«01_k».proof.Proof.Gen.Kernel.Skeleton
public import Idealize.ShloMosaic.Lib.Pipeline.FrameBody
public import Idealize.ShloMosaic.Lib.Tactic
public import Idealize.ShloMosaic.Lib.Claim

@[expose] public section

set_option maxRecDepth 16384

noncomputable section

namespace Cert.Transducer.Original

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at any contents holds some values. -/
theorem owned_any (c : Dev nD) {s : Shape} {e : EltTy} (arg : Memref sig .tc .vmem s e) (f : BufTy.Contents (Elt F) arg.view.ty) :
    (arg.view.loc (c : Thread nD τ) ↦[arg.view.set]{fullShare} f : sProp 𝕄) ⊢ iprop(∃ d, owns (c : Thread nD τ) arg fullShare d) := by
  unfold owns
  iintro H
  iexists (arg.view.read (Elt F) f); iexists f; isplitr; · ipureintro; rfl
  iexact H

set_option maxHeartbeats 20000000 in
/-- The body from inputs at `x0` … `x3` and every other buffer at anything: it runs, and returns the inputs as they were. -/
theorem body_wp (c : Dev nD) (i : grid0.Coords) (arg1 : Memref sig .tc .vmem S8x1 .i32) (harg1 : arg1.IsWhole) (arg2 : Memref sig .tc .vmem S8x1 .i32) (harg2 : arg2.IsWhole) (arg3 : Memref sig .tc .vmem S8x64x256 .f32) (harg3 : arg3.IsWhole) (arg4 : Memref sig .tc .vmem S8x16x65x256 .f32) (harg4 : arg4.IsWhole) (arg5 : Memref sig .tc .vmem S1x1 .f32) (harg5 : arg5.IsWhole) (arg6 : Memref sig .tc .vmem S8x65 .f32) (harg6 : arg6.IsWhole) (arg7 : Memref sig .tc .vmem S8x65 .f32) (harg7 : arg7.IsWhole) (arg8 : Memref sig .tc .vmem S8x65 .f32) (harg8 : arg8.IsWhole)
    (x0 : Vec F S8x1 .i32) (x1 : Vec F S8x1 .i32) (x2 : Vec F S8x64x256 .f32) (x3 : Vec F S8x16x65x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iapply (owned_any c arg5 _); iexact H4
  isplitl [H5]; · iapply (owned_any c arg6 _); iexact H5
  isplitl [H6]; · iapply (owned_any c arg7 _); iexact H6
  iapply (owned_any c arg8 _); iexact H7

abbrev stg0 (t : Fin cfg0.N) : Memref sig .tc .vmem S8x1 .i32 := win0_0.stage (cfg0.slots t 0)
abbrev stg1 (t : Fin cfg0.N) : Memref sig .tc .vmem S8x1 .i32 := win0_1.stage (cfg0.slots t 1)
abbrev stg2 (t : Fin cfg0.N) : Memref sig .tc .vmem S8x64x256 .f32 := win0_2.stage (cfg0.slots t 2)
abbrev stg3 (t : Fin cfg0.N) : Memref sig .tc .vmem S8x16x65x256 .f32 := win0_3.stage (cfg0.slots t 3)
abbrev stg4 (t : Fin cfg0.N) : Memref sig .tc .vmem S1x1 .f32 := win0_4.stage (cfg0.slots t 4)
abbrev scrAlpha : Memref sig .tc .vmem S8x65 .f32 := Memref.whole cc0_scratch0
abbrev scrBlank : Memref sig .tc .vmem S8x65 .f32 := Memref.whole cc0_scratch1
abbrev scrAcc : Memref sig .tc .vmem S8x65 .f32 := Memref.whole cc0_scratch2

/-- What the launch hands the region over: the scratch buffers at anything and the generator's register. -/
theorem handed_eq (c : Dev nD) :
    (Pipeline.ΦA spec0 c : sProp 𝕄) = iprop(iprop((∃ d, owns (c : Thread nD τ) scrAlpha fullShare d)
      ∗ (∃ d, owns (c : Thread nD τ) scrBlank fullShare d) ∗ (∃ d, owns (c : Thread nD τ) scrAcc fullShare d)) ∗ (∃ r, prngReg c r)) := by
  unfold Pipeline.ΦA; rw [scopedRest0_eq]; simp only [scrAlpha, scrBlank, scrAcc, owns_whole]; try rfl

/-- The launch's data: each input's buffer keeps its block; the output's is not followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => broadcast S1x1 (Scalar.ofBits .f32 0x00000000#32)
  Φ t := Pipeline.ΦA spec0 c
  q _ := fullShare
  owed _ := 0

/-- The window whose contents are not followed: the output's. -/
def unnamed (w : Fin cfg0.W) : Bool := w == 4

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

set_option maxHeartbeats 1600000 in
/-- The body at any point of the grid. -/
theorem sound_body (c : Dev nD) (t : Fin cfg0.N) :
    iprop((dats m 0 c).Φ t.castSucc ∗ (dats m 0 c).owesAt () t.castSucc
      ∗ (∃ d, owns (c : Thread nD τ) (stg0 t) fullShare ((dats m 0 c).before 0 t d))
      ∗ (∃ d, owns (c : Thread nD τ) (stg1 t) fullShare ((dats m 0 c).before 1 t d))
      ∗ (∃ d, owns (c : Thread nD τ) (stg2 t) fullShare ((dats m 0 c).before 2 t d))
      ∗ (∃ d, owns (c : Thread nD τ) (stg3 t) fullShare ((dats m 0 c).before 3 t d))
      ∗ (∃ X, owns (c : Thread nD τ) (stg4 t) fullShare X))
    ⊢ wp frame (wpE (defs₀ (F := F)) Variants.none c none) Set.univ (bodyAt0 t) (fun _ =>
      iprop((dats m 0 c).Φ t.succ ∗ (dats m 0 c).owesAt () t.succ
        ∗ owns (c : Thread nD τ) (stg0 t) fullShare ((dats m 0 c).after 0 t)
        ∗ owns (c : Thread nD τ) (stg1 t) fullShare ((dats m 0 c).after 1 t)
        ∗ owns (c : Thread nD τ) (stg2 t) fullShare ((dats m 0 c).after 2 t)
        ∗ owns (c : Thread nD τ) (stg3 t) fullShare ((dats m 0 c).after 3 t)
        ∗ (∃ X, owns (c : Thread nD τ) (stg4 t) fullShare X))) := by
  unfold bodyAt0
  simp only [before_0, before_1, before_2, before_3]
  rw [show (dats m 0 c).owesAt () t.succ = (dats m 0 c).owesAt () t.castSucc from rfl,
    after_0, after_1, after_2, after_3, show (dats m 0 c).Φ t.succ = Pipeline.ΦA spec0 c from rfl,
    show (dats m 0 c).Φ t.castSucc = Pipeline.ΦA spec0 c from rfl, handed_eq]
  iintro ⟨⟨⟨HS0, HS1, HS2⟩, Hg⟩, Ho, ⟨%d0, H0⟩, ⟨%d1, H1⟩, ⟨%d2, H2⟩, ⟨%d3, H3⟩, H4⟩
  iapply (body_wp c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iexact H4

theorem defs_row (t : Fin cfg0.N) : defs₀ (F := F) .tc cfg0.body (cfg0.bodyArgs t (cfg0.slots t)) = bodyAt0 t := by
  unfold defs₀; rw [Defs.onTc_tc]

/-- The pipeline's obligation on its body. -/
theorem obligation (c : Dev nD) : Pipeline.BodyObligationLoose (dats (F := F) m 0 c) (defs₀ (F := F)) Variants.none () Set.univ unnamed := fun t => by
  rw [bigSep_W0, bigSep_W0, defs_row]
  exact triple_restated (sound_body m c t) rfl .rfl fun _ => .rfl

/-! ## The run -/

set_option backward.isDefEq.respectTransparency.types false in
theorem run : θ_run defs (onTc (τ := τ) (main (F := F))) (s₀ m ρ)
    (fun r => (Pipeline.RDat.FramePost cfg0 (fun c => (dats m 0 c).toRForget unnamed) (V m)) r ∧ r.2.sem = fun _ => 0) :=
  Pipeline.θ_run_frame_forget cfgs (dats m) (0 : Fin 1) launch0 defs₀ Variants.none unnamed m ρ main
    (hbody := fun c => obligation m c) (hshare := fun c => (dats m 0 c).share_full fun _ => rfl)
    (howed := fun _ _ => rfl) (V := V m) (hmain := hmain m Variants.none) (hA := A_eq m) (hΦ := fun _ _ => rfl)
    (Q' := _) (hQ' := fun _ h => h)

/-- The program's frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((((dats m 0 c).toRForget_arrAt_iff (fgt := unnamed) (w := 3) (by decide) _ _).mp ((h.1 c).1 3)).trans
        (((dats m 0 c).arrAt_in 3 rfl _).trans ((A_eq m c 3).trans (V_main_arg0 m c)))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.Transducer.Original

end
-- ==== Proof.Body.lean ====
/-
  The kernel's body run once from a state of its buffers: what it stores, found by executing it.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Transducer

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 20000000 in
/-- The body from inputs at `x0` … `x3`, the output's buffer at anything and the three scratch buffers at `xs0`, `xs1`, `xs2`:
    it returns the inputs as they were, and the output's buffer and the scratch overwritten by the pieces found here. -/
noncomputable def bodyRun (c : Dev nD) (i : grid0.Coords) (arg1 : Memref sig .tc .vmem S8x1 .i32) (harg1 : arg1.IsWhole) (arg2 : Memref sig .tc .vmem S8x1 .i32) (harg2 : arg2.IsWhole) (arg3 : Memref sig .tc .vmem S8x64x256 .f32) (harg3 : arg3.IsWhole) (arg4 : Memref sig .tc .vmem S8x16x65x256 .f32) (harg4 : arg4.IsWhole) (arg5 : Memref sig .tc .vmem S1x1 .f32) (harg5 : arg5.IsWhole) (arg6 : Memref sig .tc .vmem S8x65 .f32) (harg6 : arg6.IsWhole) (arg7 : Memref sig .tc .vmem S8x65 .f32) (harg7 : arg7.IsWhole) (arg8 : Memref sig .tc .vmem S8x65 .f32) (harg8 : arg8.IsWhole)
    (x0 : Vec F S8x1 .i32) (x1 : Vec F S8x1 .i32) (x2 : Vec F S8x64x256 .f32) (x3 : Vec F S8x16x65x256 .f32) (xs0 : Vec F S8x65 .f32) (xs1 : Vec F S8x65 .f32) (xs2 : Vec F S8x65 .f32) :
    Σ' (L4 : List (View.Piece (Elt F) S1x1 .f32)), Σ' (LS0 : List (View.Piece (Elt F) S8x65 .f32)), Σ' (LS1 : List (View.Piece (Elt F) S8x65 .f32)), { LS2 : List (View.Piece (Elt F) S8x65 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1; obtain rfl := harg8.eq_unread hfs2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _; iexact HS2

end Cert.Transducer

end
-- ==== Proof.Step.lean ====
/-
  The kernel's body as pure functions of the blocks it reads: one time row at a time, then the
  sixteen rows of a block in order. Everything here is stated at any float instance.
-/
module

public import proofs.«01_k».proof.KernelIdeal
public import Idealize.ShloMosaic.Lib.ValueIdxCore

@[expose] public section

noncomputable section

namespace Cert.Transducer

open Idealize.ShloMosaic Cert.KernelIdeal Cert.KernelIdeal.Facts₀

variable {F : FTy → Type} [FloatOps F] [Named F] [Cert.KernelIdeal.Facts]

/-- An `[8, 65]` array moved right along its second axis: the first columns (the width of `P`) are `fill`, the rest are
    the array's own from its first column on. -/
def moved (P R : Shape) (hs : S8x65.Slices ![0, 0] R) (hc : Shape.Concatenates [P, R] S8x65 1) (fill : F .f32)
    (v : FVec F S8x65 .f32) : FVec F S8x65 .f32 :=
  concatenate S8x65 1 [⟨P, broadcast P fill⟩, ⟨R, extractStridedSlice R ![0, 0] v hs⟩] hc

/-- One doubling level of the running sum: the array plus itself moved right. -/
def sumLevel (P R : Shape) (hs : S8x65.Slices ![0, 0] R) (hc : Shape.Concatenates [P, R] S8x65 1)
    (v : FVec F S8x65 .f32) : FVec F S8x65 .f32 :=
  addf v (moved P R hs hc (Scalar.ofBits .f32 0x00000000#32) v)

/-- log (exp a + exp b), element by element, by the larger of the two. -/
def logAddExp (a b : FVec F S8x65 .f32) : FVec F S8x65 .f32 :=
  addf (maximumf a b) (log1p (exp (subf (broadcast S8x65 (Scalar.ofBits .f32 0x00000000#32)) (absf (subf a b)))))

/-- One doubling level of the running log-sum-exp: the array against itself moved right, the gap filled with "minus infinity". -/
def lseLevel (P R : Shape) (hs : S8x65.Slices ![0, 0] R) (hc : Shape.Concatenates [P, R] S8x65 1)
    (v : FVec F S8x65 .f32) : FVec F S8x65 .f32 :=
  logAddExp v (moved P R hs hc (Named.named κ "neg" 0xF149F2CA#32) v)

/-- The running sum along the second axis: levels 1, 2, 4, 8, 16, 32, 64. -/
def runningSum (v : FVec F S8x65 .f32) : FVec F S8x65 .f32 :=
  sumLevel S8x64 S8x1 slices_S8x65_o0_0_S8x1 concatenates_S8x64_S8x1_S8x65_d1 <|
  sumLevel S8x32 S8x33 slices_S8x65_o0_0_S8x33 concatenates_S8x32_S8x33_S8x65_d1 <|
  sumLevel S8x16 S8x49 slices_S8x65_o0_0_S8x49 concatenates_S8x16_S8x49_S8x65_d1 <|
  sumLevel S8x8 S8x57 slices_S8x65_o0_0_S8x57 concatenates_S8x8_S8x57_S8x65_d1 <|
  sumLevel S8x4 S8x61 slices_S8x65_o0_0_S8x61 concatenates_S8x4_S8x61_S8x65_d1 <|
  sumLevel S8x2 S8x63 slices_S8x65_o0_0_S8x63 concatenates_S8x2_S8x63_S8x65_d1 <|
  sumLevel S8x1 S8x64 slices_S8x65_o0_0_S8x64 concatenates_S8x1_S8x64_S8x65_d1 v

/-- The running log-sum-exp along the second axis: levels 1, 2, 4, 8, 16, 32, 64. -/
def runningLse (v : FVec F S8x65 .f32) : FVec F S8x65 .f32 :=
  lseLevel S8x64 S8x1 slices_S8x65_o0_0_S8x1 concatenates_S8x64_S8x1_S8x65_d1 <|
  lseLevel S8x32 S8x33 slices_S8x65_o0_0_S8x33 concatenates_S8x32_S8x33_S8x65_d1 <|
  lseLevel S8x16 S8x49 slices_S8x65_o0_0_S8x49 concatenates_S8x16_S8x49_S8x65_d1 <|
  lseLevel S8x8 S8x57 slices_S8x65_o0_0_S8x57 concatenates_S8x8_S8x57_S8x65_d1 <|
  lseLevel S8x4 S8x61 slices_S8x65_o0_0_S8x61 concatenates_S8x4_S8x61_S8x65_d1 <|
  lseLevel S8x2 S8x63 slices_S8x65_o0_0_S8x63 concatenates_S8x2_S8x63_S8x65_d1 <|
  lseLevel S8x1 S8x64 slices_S8x65_o0_0_S8x64 concatenates_S8x1_S8x64_S8x65_d1 v

/-- A row's logits `[8, 65, 256]`. -/
def rowLogits (x : Vec F S8x1x65x256 .f32) : FVec F S8x65x256 .f32 :=
  shapeCast S8x65x256 x shapeCasts_S8x1x65x256_S8x65x256

/-- A row's log-sum-exp over the vocabulary, its two halves added first. -/
def rowLse (x : Vec F S8x1x65x256 .f32) : FVec F S8x65 .f32 :=
  log (multiReduction .add [2] S8x65
    (addf (extractStridedSlice S8x65x128 ![0, 0, 0] (exp (rowLogits x)) slices_S8x65x256_o0_0_0_S8x65x128)
      (extractStridedSlice S8x65x128 ![0, 0, 128] (exp (rowLogits x)) slices_S8x65x256_o0_0_128_S8x65x128))
    0x00000000#32 reduces_S8x65x128_S8x65 (.inl rfl) rfl)

/-- A row's blank log-probabilities. -/
def rowBlank (x : Vec F S8x1x65x256 .f32) : FVec F S8x65 .f32 :=
  subf (shapeCast S8x65 (extractStridedSlice S8x65x1 ![0, 0, 0] (rowLogits x) slices_S8x65x256_o0_0_0_S8x65x1)
    shapeCasts_S8x65x1_S8x65) (rowLse x)

/-- A row's label logits: the logits against the one-hot labels. -/
def rowPicked (oh : Vec F S8x64x256 .f32) (x : Vec F S8x1x65x256 .f32) : FVec F S8x64x256 .f32 :=
  mulf (extractStridedSlice S8x64x256 ![0, 0, 0] (rowLogits x) slices_S8x65x256_o0_0_0_S8x64x256)
    (shapeCast S8x64x256 oh shapeCasts_S8x64x256_S8x64x256)

/-- A row's label log-probabilities. -/
def rowEmit (oh : Vec F S8x64x256 .f32) (x : Vec F S8x1x65x256 .f32) : FVec F S8x64 .f32 :=
  subf (multiReduction .add [2] S8x64
      (addf (extractStridedSlice S8x64x128 ![0, 0, 0] (rowPicked oh x) slices_S8x64x256_o0_0_0_S8x64x128)
        (extractStridedSlice S8x64x128 ![0, 0, 128] (rowPicked oh x) slices_S8x64x256_o0_0_128_S8x64x128))
      0x00000000#32 reduces_S8x64x128_S8x64 (.inl rfl) rfl)
    (extractStridedSlice S8x64 ![0, 0] (rowLse x) slices_S8x65_o0_0_S8x64)

/-- A row's running sums of its label log-probabilities, from a zero in column 0. -/
def rowCum (oh : Vec F S8x64x256 .f32) (x : Vec F S8x1x65x256 .f32) : FVec F S8x65 .f32 :=
  runningSum (concatenate S8x65 1 [⟨S8x1, broadcast S8x1 (Scalar.ofBits .f32 0x00000000#32)⟩, ⟨S8x64, rowEmit oh x⟩]
    concatenates_S8x1_S8x64_S8x65_d1)

/-- A row's forward variables from the row before's (`a`) and its blank log-probabilities (`b`). -/
def rowNext (oh : Vec F S8x64x256 .f32) (x : Vec F S8x1x65x256 .f32) (a b : FVec F S8x65 .f32) : FVec F S8x65 .f32 :=
  addf (rowCum oh x) (runningLse (subf (addf a b) (rowCum oh x)))

/-- Which cells of row `16 * i + j` are the last ones of their sequences: `lastT = T - 1` is the row and `lastU = U` the column. -/
def rowIsLast (i : BitVec 32) (j : BitVec 32) (lastT : Vec F S8x1 .i32) (lastU : Vec F S8x1 .i32) : IVec S8x65 1 :=
  andi (broadcastTo S8x65
      (cmpi .eq (subi (shapeCast S8x1 lastT shapeCasts_S8x1_S8x1) (broadcast S8x1 1#32))
        (broadcast S8x1 (Scalar.addi (Scalar.muli i 16#32) j))) broadcasts_S8x1_S8x65)
    (cmpi .eq (iota .tc S8x65 32 [1] iota_S8x65_d1_w32)
      (broadcastTo S8x65 (shapeCast S8x1 lastU shapeCasts_S8x1_S8x1) broadcasts_S8x1_S8x65))

/-- What the kernel carries from row to row: the forward variables, the blank log-probabilities, the log-likelihoods so far. -/
structure Carry (F : FTy → Type) where
  alpha : FVec F S8x65 .f32
  blank : FVec F S8x65 .f32
  acc : FVec F S8x65 .f32

/-- Row `j` of block `i`. The very first row's forward variables are its running sums. -/
def rowStep (i : BitVec 32) (lastT lastU : Vec F S8x1 .i32) (oh : Vec F S8x64x256 .f32) (j : ℕ)
    (x : Vec F S8x1x65x256 .f32) (s : Carry F) : Carry F :=
  let a := match j with
    | 0 => Scalar.select (Scalar.cmpi .eq i 0#32) (rowCum oh x) (rowNext oh x s.alpha s.blank)
    | _ + 1 => rowNext oh x s.alpha s.blank
  ⟨a, rowBlank x, addf s.acc (select (rowIsLast i (BitVec.ofNat 32 j) lastT lastU) (addf a (rowBlank x))
    (broadcast S8x65 (Scalar.ofBits .f32 0x00000000#32)))⟩

/-- The first `n` rows of block `i`, the rows being `rows 0`, `rows 1`, …, from what the block before left. -/
def blockSteps (i : BitVec 32) (lastT lastU : Vec F S8x1 .i32) (oh : Vec F S8x64x256 .f32)
    (rows : ℕ → Vec F S8x1x65x256 .f32) (s : Carry F) : ℕ → Carry F
  | 0 => ⟨s.alpha, s.blank, Scalar.select (Scalar.cmpi .eq i 0#32) (broadcast S8x65 (Scalar.ofBits .f32 0x00000000#32)) s.acc⟩
  | n + 1 => rowStep i lastT lastU oh n (rows n) (blockSteps i lastT lastU oh rows s n)

/-- Row `j` of a block of sixteen. -/
def blockRow (x : Vec F S8x16x65x256 .f32) (j : ℕ) : Vec F S8x1x65x256 .f32 :=
  fun y => x (ValueIdx.ix4 (y 0) (Fin.ofNat 16 j) (y 2) (y 3))

/-- The mean negative log-likelihood written after a block: minus the sum of everything accumulated, over eight. -/
def lossOf (acc : FVec F S8x65 .f32) : FVec F S1x1 .f32 :=
  divf (subf (broadcast S1x1 (Scalar.ofBits .f32 0x00000000#32))
    (broadcast S1x1 (extractAt ![0, 0, 0] (shapeCast S1x1x1 (multiReduction .add [1, 2] S1
      (shapeCast S1x8x65 acc shapeCasts_S8x65_S1x8x65) 0x00000000#32 reduces_S1x8x65_S1 (.inl rfl) rfl)
      shapeCasts_S1_S1x1x1) inpos_S1x1x1_p0_0_0)))
    (broadcast S1x1 (Scalar.ofBits .f32 0x41000000#32))

end Cert.Transducer

end
-- ==== Proof.Pieces.lean ====
/-
  What the body stores are the row steps of `Step.lean` in order.
-/
module

public import proofs.«01_k».proof.Proof.Body
public import proofs.«01_k».proof.Proof.Step
public import Idealize.ShloMosaic.Lib.WholeRead
public import Idealize.ShloMosaic.Lib.VecWindow
public import Idealize.ShloMosaic.Lib.Pipeline.Value

@[expose] public section

noncomputable section

namespace Cert.Transducer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem rowInside (j : Fin 16) : ∀ a, (![0, j.val, 0, 0] : Fin 4 → Nat) a + S8x1x65x256.size a ≤ S8x16x65x256.size a := by
  revert j; decide

/-- A block's row as the body loads it. -/
def loadedRow (arg4 : Memref sig .tc .vmem S8x16x65x256 .f32) (harg4 : arg4.IsWhole) (x3 : Vec F S8x16x65x256 .f32) (j : ℕ) :
    Vec F S8x1x65x256 .f32 :=
  View.readAt (Elt F) arg4.view (Rect.unit (s := S8x16x65x256) ![0, (Fin.ofNat 16 j : Fin 16).val, 0, 0] S8x1x65x256.size (rowInside _)).toLoadRect (harg4.unread x3)

section
variable (c : Dev nD) (i : grid0.Coords) (arg1 : Memref sig .tc .vmem S8x1 .i32) (harg1 : arg1.IsWhole) (arg2 : Memref sig .tc .vmem S8x1 .i32) (harg2 : arg2.IsWhole) (arg3 : Memref sig .tc .vmem S8x64x256 .f32) (harg3 : arg3.IsWhole) (arg4 : Memref sig .tc .vmem S8x16x65x256 .f32) (harg4 : arg4.IsWhole) (arg5 : Memref sig .tc .vmem S1x1 .f32) (harg5 : arg5.IsWhole) (arg6 : Memref sig .tc .vmem S8x65 .f32) (harg6 : arg6.IsWhole) (arg7 : Memref sig .tc .vmem S8x65 .f32) (harg7 : arg7.IsWhole) (arg8 : Memref sig .tc .vmem S8x65 .f32) (harg8 : arg8.IsWhole)
    (x0 x1 : Vec F S8x1 .i32) (x2 : Vec F S8x64x256 .f32) (x3 : Vec F S8x16x65x256 .f32) (xs0 xs1 xs2 : Vec F S8x65 .f32)

/-- What is carried past the first `n` rows of the block, over the buffers as the body loads them. -/
def loadedSteps (n : ℕ) : Carry F :=
  blockSteps (BitVec.ofNat 32 (i 0).val)
    (View.readAt (Elt F) arg1.view (Rect.unit ![0, 0] S8x1.size inb_S8x1_S8x1_0_0).toLoadRect (harg1.unread x0))
    (View.readAt (Elt F) arg2.view (Rect.unit ![0, 0] S8x1.size inb_S8x1_S8x1_0_0).toLoadRect (harg2.unread x1))
    (View.readAt (Elt F) arg3.view (Rect.unit ![0, 0, 0] S8x64x256.size inb_S8x64x256_S8x64x256_0_0_0).toLoadRect (harg3.unread x2))
    (loadedRow arg4 harg4 x3)
    ⟨View.readAt (Elt F) arg6.view (Rect.unit ![0, 0] S8x65.size inb_S8x65_S8x65_0_0).toLoadRect (harg6.unread xs0),
     View.readAt (Elt F) arg7.view (Rect.unit ![0, 0] S8x65.size inb_S8x65_S8x65_0_0).toLoadRect (harg7.unread xs1),
     View.readAt (Elt F) arg8.view (Rect.unit ![0, 0] S8x65.size inb_S8x65_S8x65_0_0).toLoadRect (harg8.unread xs2)⟩ n

/-- The body's one store into the output's buffer. -/
theorem bodyRun_out :
    (bodyRun c i arg1 harg1 arg2 harg2 arg3 harg3 arg4 harg4 arg5 harg5 arg6 harg6 arg7 harg7 arg8 harg8 x0 x1 x2 x3 xs0 xs1 xs2).1
      = [⟨Rect.unit ![0, 0] S1x1.size inb_S1x1_S1x1_0_0, lossOf (loadedSteps i arg1 harg1 arg2 harg2 arg3 harg3 arg4 harg4 arg6 harg6 arg7 harg7 arg8 harg8 x0 x1 x2 x3 xs0 xs1 xs2 16).acc⟩] := by
  sl_kernel_rfl

/-- Its one store into the scratch of the forward variables. -/
theorem bodyRun_alpha :
    (bodyRun c i arg1 harg1 arg2 harg2 arg3 harg3 arg4 harg4 arg5 harg5 arg6 harg6 arg7 harg7 arg8 harg8 x0 x1 x2 x3 xs0 xs1 xs2).2.1
      = [⟨Rect.unit ![0, 0] S8x65.size inb_S8x65_S8x65_0_0, shapeCast S8x65 (loadedSteps i arg1 harg1 arg2 harg2 arg3 harg3 arg4 harg4 arg6 harg6 arg7 harg7 arg8 harg8 x0 x1 x2 x3 xs0 xs1 xs2 16).alpha shapeCasts_S8x65_S8x65⟩] := by
  sl_kernel_rfl

/-- Its one store into the scratch of the blank log-probabilities. -/
theorem bodyRun_blank :
    (bodyRun c i arg1 harg1 arg2 harg2 arg3 harg3 arg4 harg4 arg5 harg5 arg6 harg6 arg7 harg7 arg8 harg8 x0 x1 x2 x3 xs0 xs1 xs2).2.2.1
      = [⟨Rect.unit ![0, 0] S8x65.size inb_S8x65_S8x65_0_0, shapeCast S8x65 (loadedSteps i arg1 harg1 arg2 harg2 arg3 harg3 arg4 harg4 arg6 harg6 arg7 harg7 arg8 harg8 x0 x1 x2 x3 xs0 xs1 xs2 16).blank shapeCasts_S8x65_S8x65⟩] := by
  sl_kernel_rfl

/-- Its one store into the scratch of the log-likelihoods. -/
theorem bodyRun_acc :
    (bodyRun c i arg1 harg1 arg2 harg2 arg3 harg3 arg4 harg4 arg5 harg5 arg6 harg6 arg7 harg7 arg8 harg8 x0 x1 x2 x3 xs0 xs1 xs2).2.2.2.1
      = [⟨Rect.unit ![0, 0] S8x65.size inb_S8x65_S8x65_0_0, shapeCast S8x65 (loadedSteps i arg1 harg1 arg2 harg2 arg3 harg3 arg4 harg4 arg6 harg6 arg7 harg7 arg8 harg8 x0 x1 x2 x3 xs0 xs1 xs2 16).acc shapeCasts_S8x65_S8x65⟩] := by
  sl_kernel_rfl

/-- What a point of the grid carries on from what the point before carried (`s`), from the blocks of its four inputs. -/
def pointStep (i : grid0.Coords) (x0 x1 : Vec F S8x1 .i32) (x2 : Vec F S8x64x256 .f32) (x3 : Vec F S8x16x65x256 .f32) (s : Carry F) : Carry F :=
  blockSteps (BitVec.ofNat 32 (i 0).val) x0 x1 x2 (blockRow x3) s 16

theorem loadedRow_eq : loadedRow arg4 harg4 x3 = blockRow x3 := by
  funext j y
  refine (harg4.readAt_unread x3 (Rect.unit (s := S8x16x65x256) ![0, (Fin.ofNat 16 j : Fin 16).val, 0, 0] S8x1x65x256.size (rowInside _)).toLoadRect y).trans (congrArg x3 ?_)
  funext a; apply Fin.ext
  have h1 : (y 1).val = 0 := by have := (y 1).isLt; change (y 1).val < 1 at this; omega
  match a with
  | 0 => exact (Nat.zero_add _).trans (Nat.one_mul _)
  | 1 => change (Fin.ofNat 16 j : Fin 16).val + 1 * (y 1).val = (Fin.ofNat 16 j : Fin 16).val; omega
  | 2 => exact (Nat.zero_add _).trans (Nat.one_mul _)
  | 3 => exact (Nat.zero_add _).trans (Nat.one_mul _)

/-- A load of a whole buffer reads its contents. -/
theorem load_all {s : Shape} {e : EltTy} (a : Memref sig .tc .vmem s e) (ha : a.IsWhole) {off : Fin s.rank → ℕ} (inb : ∀ k, off k + s.size k ≤ s.size k) (x : Vec F s e) :
    View.readAt (Elt F) a.view (Rect.unit off s.size inb).toLoadRect (ha.unread x) = x :=
  (View.readAt_full _ _ inb).trans (ha.read_unread x)

theorem loadedSteps_eq : loadedSteps i arg1 harg1 arg2 harg2 arg3 harg3 arg4 harg4 arg6 harg6 arg7 harg7 arg8 harg8 x0 x1 x2 x3 xs0 xs1 xs2 16
    = pointStep i x0 x1 x2 x3 ⟨xs0, xs1, xs2⟩ := by
  unfold loadedSteps pointStep
  rw [loadedRow_eq]
  rw [load_all arg1 harg1, load_all arg2 harg2, load_all arg3 harg3, load_all arg6 harg6, load_all arg7 harg7, load_all arg8 harg8]

/-- The body at a point of the grid: the inputs stay, the output and the scratch end as `pointStep` says. -/
theorem body_wp (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (lossOf (pointStep i x0 x1 x2 x3 ⟨xs0, xs1, xs2⟩).acc)
            ∗ owns (c : Thread nD τ) arg6 fullShare (pointStep i x0 x1 x2 x3 ⟨xs0, xs1, xs2⟩).alpha
            ∗ owns (c : Thread nD τ) arg7 fullShare (pointStep i x0 x1 x2 x3 ⟨xs0, xs1, xs2⟩).blank
            ∗ owns (c : Thread nD τ) arg8 fullShare (pointStep i x0 x1 x2 x3 ⟨xs0, xs1, xs2⟩).acc) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  iintro ⟨H0, H1, H2, H3, H4, HS0, HS1, HS2, Hk⟩
  iapply ((bodyRun c i arg1 harg1 arg2 harg2 arg3 harg3 arg4 harg4 arg5 harg5 arg6 harg6 arg7 harg7 arg8 harg8 x0 x1 x2 x3 xs0 xs1 xs2).2.2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, ⟨%e4, H4⟩, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; rw [bodyRun_out, View.read_writes_full, loadedSteps_eq]
  isplitl [HS0]
  · unfold owns; iexists _; isplitr
    swap; · iexact HS0
    ipureintro; rw [bodyRun_alpha, View.read_writes_full, shapeCast_self, loadedSteps_eq]
  isplitl [HS1]
  · unfold owns; iexists _; isplitr
    swap; · iexact HS1
    ipureintro; rw [bodyRun_blank, View.read_writes_full, shapeCast_self, loadedSteps_eq]
  unfold owns; iexists _; isplitr
  swap; · iexact HS2
  ipureintro; rw [bodyRun_acc, View.read_writes_full, shapeCast_self, loadedSteps_eq]

end

end Cert.Transducer

end
-- ==== Proof.Region.lean ====
/-
  The kernel's launch: what the scratch buffers and the output hold after each of the 32 grid points, the body's
  obligation at every point, and the run of the whole program.
-/
module

public import proofs.«01_k».proof.Proof.Pieces
public import Idealize.ShloMosaic.Lib.Claim

@[expose] public section

noncomputable section

namespace Cert.Transducer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The values carried from point to point -/

/-- The kernel's "first point" select, at the first point. -/
theorem select_first {α : Type} (a b : α) : Scalar.select (Scalar.cmpi .eq 0#32 0#32) a b = a := rfl

/-- The first row of the first block reads nothing that was carried. -/
theorem blockSteps_first (x0 x1 : Vec F S8x1 .i32) (x2 : Vec F S8x64x256 .f32) (rows : ℕ → Vec F S8x1x65x256 .f32)
    (s s' : Carry F) (n : ℕ) : blockSteps 0#32 x0 x1 x2 rows s (n + 1) = blockSteps 0#32 x0 x1 x2 rows s' (n + 1) := by
  induction n with
  | zero => simp only [blockSteps, rowStep, select_first]
  | succ n ih => rw [blockSteps, ih, ← blockSteps]

/-- The first grid point reads nothing that was carried. -/
theorem pointStep_first (i : grid0.Coords) (h : (i 0).val = 0) (x0 x1 : Vec F S8x1 .i32) (x2 : Vec F S8x64x256 .f32)
    (x3 : Vec F S8x16x65x256 .f32) (s s' : Carry F) : pointStep i x0 x1 x2 x3 s = pointStep i x0 x1 x2 x3 s' := by
  unfold pointStep; rw [h]; exact blockSteps_first x0 x1 x2 (blockRow x3) s s' 15

/-- The one coordinate of a grid point is its position. -/
theorem coords_val : ∀ t : Fin cfg0.N, ((grid0.coords t) 0).val = t.val := by decide

/-- What is carried past the first `n` grid points. -/
def carried (c : Dev nD) : (n : ℕ) → n ≤ cfg0.N → Carry F
  | 0, _ => ⟨broadcast S8x65 (Scalar.ofBits .f32 0x00000000#32), broadcast S8x65 (Scalar.ofBits .f32 0x00000000#32),
      broadcast S8x65 (Scalar.ofBits .f32 0x00000000#32)⟩
  | n + 1, h => pointStep (grid0.coords ⟨n, h⟩) (iblk m c 0 ⟨n, h⟩) (iblk m c 1 ⟨n, h⟩) (iblk m c 2 ⟨n, h⟩)
      (iblk m c 3 ⟨n, h⟩) (carried c n (Nat.le_of_lt h))

theorem carried_succ (c : Dev nD) (t : Fin cfg0.N) :
    carried m c (t.val + 1) t.isLt = pointStep (grid0.coords t) (iblk m c 0 t) (iblk m c 1 t) (iblk m c 2 t) (iblk m c 3 t)
      (carried m c t.val (Nat.le_of_lt t.isLt)) := rfl

/-! ## The memrefs of a point -/

abbrev stg0 (t : Fin cfg0.N) : Memref sig .tc .vmem S8x1 .i32 := win0_0.stage (cfg0.slots t 0)
abbrev stg1 (t : Fin cfg0.N) : Memref sig .tc .vmem S8x1 .i32 := win0_1.stage (cfg0.slots t 1)
abbrev stg2 (t : Fin cfg0.N) : Memref sig .tc .vmem S8x64x256 .f32 := win0_2.stage (cfg0.slots t 2)
abbrev stg3 (t : Fin cfg0.N) : Memref sig .tc .vmem S8x16x65x256 .f32 := win0_3.stage (cfg0.slots t 3)
abbrev stg4 (t : Fin cfg0.N) : Memref sig .tc .vmem S1x1 .f32 := win0_4.stage (cfg0.slots t 4)
abbrev scrAlpha : Memref sig .tc .vmem S8x65 .f32 := Memref.whole cc0_scratch0
abbrev scrBlank : Memref sig .tc .vmem S8x65 .f32 := Memref.whole cc0_scratch1
abbrev scrAcc : Memref sig .tc .vmem S8x65 .f32 := Memref.whole cc0_scratch2

/-- The three scratch buffers at a carry's contents. -/
def scratchAt (c : Dev nD) (s : Carry F) : sProp 𝕄 :=
  iprop(owns (c : Thread nD τ) scrAlpha fullShare s.alpha ∗ owns (c : Thread nD τ) scrBlank fullShare s.blank
    ∗ owns (c : Thread nD τ) scrAcc fullShare s.acc)

/-- What the launch hands the region over: the scratch buffers at anything and the generator's register. -/
theorem handed_eq (c : Dev nD) :
    (Pipeline.ΦA spec0 c : sProp 𝕄) = iprop(iprop((∃ d, owns (c : Thread nD τ) scrAlpha fullShare d)
      ∗ (∃ d, owns (c : Thread nD τ) scrBlank fullShare d) ∗ (∃ d, owns (c : Thread nD τ) scrAcc fullShare d)) ∗ (∃ r, prngReg c r)) := by
  unfold Pipeline.ΦA; rw [scopedRest0_eq]; simp only [scrAlpha, scrBlank, scrAcc, owns_whole]; try rfl

/-- What holds between points: before the first what the launch hands over, afterwards the scratch at what is carried. -/
def between (c : Dev nD) : (n : ℕ) → n ≤ cfg0.N → sProp 𝕄
  | 0, _ => Pipeline.ΦA spec0 c
  | n + 1, h => iprop(scratchAt c (carried m c (n + 1) h) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(scratchAt c (carried m c n h) ∗ (∃ r, prngReg c r)) := by
  cases n with
  | zero => exact absurd rfl hz
  | succ n => rfl

/-! ## The launch's data -/

/-- The pipeline's proof data: each input's buffer keeps its block, the output's holds the loss so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossOf (carried m c (t.val + 1) t.isLt).acc
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = lossOf (carried m c (t.val + 1) t.isLt).acc := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

/-- What the body is called with at point `t`, window by window. -/
def called (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- What it returns. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

/-- Before a point the scratch holds some carry from which the point's step leads to what is carried past it. -/
theorem between_elim (c : Dev nD) (t : Fin cfg0.N) :
    (dats m 0 c).Φ t.castSucc ⊢ iprop(∃ s : Carry F, ⌜pointStep (grid0.coords t) (iblk m c 0 t) (iblk m c 1 t) (iblk m c 2 t) (iblk m c 3 t) s
      = carried m c (t.val + 1) t.isLt⌝ ∗ scratchAt c s ∗ (∃ r, prngReg c r)) := by
  rw [between_castSucc]
  by_cases hz : t.val = 0
  · rw [between_zero m c _ _ hz, handed_eq]
    iintro ⟨⟨⟨%d0, H0⟩, ⟨%d1, H1⟩, ⟨%d2, H2⟩⟩, Hg⟩
    iexists (⟨d0, d1, d2⟩ : Carry F)
    isplitr
    · ipureintro; rw [carried_succ]; exact pointStep_first _ ((coords_val t).trans hz) _ _ _ _ _ _
    isplitl [H0 H1 H2]
    · unfold scratchAt
      isplitl [H0]; · iexact H0
      isplitl [H1]; · iexact H1
      iexact H2
    iexact Hg
  · rw [between_pos m c _ _ hz]
    iintro ⟨Hs, Hg⟩
    iexists (carried m c t.val (Nat.le_of_lt t.isLt))
    isplitr
    · ipureintro; exact (carried_succ m c t).symm
    isplitl [Hs]; · iexact Hs
    iexact Hg

set_option maxHeartbeats 1600000 in
/-- The body at any point of the grid. -/
theorem sound_body (c : Dev nD) (t : Fin cfg0.N) :
    called m c t ⊢ wp frame (wpE (defs₀ (F := F)) Variants.none c none) Set.univ (bodyAt0 t) (fun _ => returned m c t) := by
  unfold called returned bodyAt0
  simp only [before_0, before_1, before_2, before_3]
  rw [show (dats m 0 c).owesAt () t.succ = (dats m 0 c).owesAt () t.castSucc from rfl,
    after_0, after_1, after_2, after_3, after_4,
    show (dats m 0 c).Φ t.succ = iprop(scratchAt c (carried m c (t.val + 1) t.isLt) ∗ (∃ r, prngReg c r)) from rfl]
  refine (BIClass.sep_mono (between_elim m c t) (BI.Entails.refl _)).trans ?_
  iintro ⟨⟨%s, %hs, Hs, Hg⟩, Ho, ⟨%d0, H0⟩, ⟨%d1, H1⟩, ⟨%d2, H2⟩, ⟨%d3, H3⟩, ⟨%d4, H4⟩⟩
  rw [← hs]
  unfold scratchAt
  icases Hs with ⟨HS0, HS1, HS2⟩
  iapply (body_wp c (grid0.coords t) _ _ _ _ _ _ _ _ _ _ _ _ _ _ _ _ (iblk m c 0 t) (iblk m c 1 t) (iblk m c 2 t) (iblk m c 3 t) s.alpha s.blank s.acc Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iexact H4

theorem defs_row (t : Fin cfg0.N) : defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = between m c cfg0.N (Nat.le_refl _) from rfl,
    between_pos m c _ _ (by decide), handed_eq]
  unfold scratchAt
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- The program runs; it ends with every array of the pipeline at what the data say and every counter at zero. -/
theorem kernel_run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The program's frame: the arguments end unchanged and every counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (kernel_run m ρ)))
    ((θ_run defs _ _).mono (fun _ h => h.2) (kernel_run m ρ))

end Cert.Transducer

end
-- ==== Proof.ReferenceFrame.lean ====
/-
  The reference's run: nothing writes its arguments, and it has no semaphores.
-/
module

public import proofs.«01_k».proof.Proof.Gen.ReferenceIdeal.Run
public import Idealize.ShloMosaic.Lib.Quiescent

@[expose] public section

noncomputable section

namespace Cert.Transducer.Reference

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The buffers written before the loop. -/
abbrev beforeWrites : List (Ref sig .tc) := hostOps0_W ++ hostOps0_1_W ++ hostOps0_2_W ++ hostOps0_3_W

/-- The buffers written by a trip of the loop. -/
abbrev tripWrites : List (Ref sig .tc) :=
  while0Ops0_W ++ while0Ops0_1_W ++ while0Ops0_2_W ++ while0Ops0_3_W ++ while0Ops0_4_W ++ while0Ops0_5_W ++ while0Ops0_6_W ++ condOps_W

/-- The buffers written after the loop. -/
abbrev lateWrites4 : List (Ref sig .tc) := [main_c_1, main_v9, main_v10, main_c_2, main_v11, main_v12, main_v13, main_v14, main_v15, main_v16]
abbrev lateWrites5 : List (Ref sig .tc) := [main_call5_v0, main_v17]
abbrev lateWrites6 : List (Ref sig .tc) := [main_v18, main_cst_3, main_v19, main_cst_4, main_v20, main_v21]

theorem hostOps0_4_writes : (hostOps0_4 : List (HloOp τ sig (Elt F))).Forall fun op => op.writes ⊆ (lateWrites4.map (Proc.devRef (τ := τ) .tc)).toFinset :=
  StableHlo.forall_writes_sub_of_map rfl
theorem hostOps0_5_writes : (hostOps0_5 : List (HloOp τ sig (Elt F))).Forall fun op => op.writes ⊆ (lateWrites5.map (Proc.devRef (τ := τ) .tc)).toFinset :=
  StableHlo.forall_writes_sub_of_map rfl
theorem hostOps0_6_writes : (hostOps0_6 : List (HloOp τ sig (Elt F))).Forall fun op => op.writes ⊆ (lateWrites6.map (Proc.devRef (τ := τ) .tc)).toFinset :=
  StableHlo.forall_writes_sub_of_map rfl

/-- A buffer no operation before the loop writes is at the loop's entry what it was at the launch. -/
theorem before_keeps (c : Dev nD) (r : Ref sig .tc) (h : r ∉ beforeWrites) :
    entryContents preI m c (Proc.devRef .tc r) = m ((c.tc : Thread nD τ).loc r) := by
  simp only [beforeWrites, List.mem_append, not_or] at h
  obtain ⟨⟨⟨h0, h1⟩, h2⟩, h3⟩ := h
  show after hostOps0_3 (after hostOps0_2 (after hostOps0_1 (after hostOps0 (launchContents m c)))) (Proc.devRef .tc r) = _
  rw [after_of_writes_sub _ _ hostOps0_3_writes h3, after_of_writes_sub _ _ hostOps0_2_writes h2,
    after_of_writes_sub _ _ hostOps0_1_writes h1, after_of_writes_sub _ _ hostOps0_writes h0]

/-- A buffer no trip writes is what it was at the loop's entry. -/
theorem trips_keep (c : Dev nD) (r : Ref sig .tc) (h : r ∉ tripWrites) :
    ∀ k, atK m k c (Proc.devRef .tc r) = entryContents preI m c (Proc.devRef .tc r)
  | 0 => rfl
  | k + 1 => by
    have ih := trips_keep c r h k
    simp only [tripWrites, List.mem_append, not_or] at h
    obtain ⟨⟨⟨⟨⟨⟨⟨h0, h1⟩, h2⟩, h3⟩, h4⟩, h5⟩, h6⟩, hc⟩ := h
    show after while0Ops0_6 (after while0Ops0_5 (after while0Ops0_4 (after while0Ops0_3 (after while0Ops0_2 (after while0Ops0_1
      (after while0Ops0 (after condOps (atK m k c)))))))) (Proc.devRef .tc r) = _
    rw [after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, ih]

/-- What every buffer holds when the loop is left. -/
def leftWith (c : Dev nD) : Valuation τ sig (Elt F) := after condOps (atK m 33280 c)

/-- A buffer nothing writes ends at what it was at the launch. -/
theorem kept (c : Dev nD) (r : Ref sig .tc) (hb : r ∉ beforeWrites) (ht : r ∉ tripWrites)
    (h4 : r ∉ lateWrites4) (h5 : r ∉ lateWrites5) (h6 : r ∉ lateWrites6) :
    finalContents condOps preI bodyI postI 33280 m c (Proc.devRef .tc r) = m ((c.tc : Thread nD τ).loc r) := by
  show after hostOps0_6 (after hostOps0_5 (after hostOps0_4 (after condOps (atK m 33280 c)))) (Proc.devRef .tc r) = _
  have hc : r ∉ condOps_W := fun h => ht (List.mem_append_right _ h)
  rw [after_of_writes_sub _ _ hostOps0_6_writes h6, after_of_writes_sub _ _ hostOps0_5_writes h5,
    after_of_writes_sub _ _ hostOps0_4_writes h4, after_of_writes_sub _ _ condOps_writes hc,
    trips_keep m c r ht, before_keeps m c r hb]

/-- The reference runs: it ends with every buffer at the fold of its operations and its arguments unchanged. -/
theorem run : θ_run (defs (F := F)) (onTc (τ := τ) (main (F := F))) ⟨m, fun _ => 0, ρ⟩
    (fun r => ∀ c : Dev nD,
      r.2.mem ((c.tc : Thread nD τ).loc main_v21) = finalContents condOps preI bodyI postI 33280 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c main_v21 rfl,
    (h c main_arg0 rfl).trans (kept m c main_arg0 (by decide) (by decide) (by decide) (by decide) (by decide)),
    (h c main_arg1 rfl).trans (kept m c main_arg1 (by decide) (by decide) (by decide) (by decide) (by decide)),
    (h c main_arg2 rfl).trans (kept m c main_arg2 (by decide) (by decide) (by decide) (by decide) (by decide)),
    (h c main_arg3 rfl).trans (kept m c main_arg3 (by decide) (by decide) (by decide) (by decide) (by decide))⟩) (run_fold m ρ)

/-- The reference's frame: the arguments end unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, Idealize.ShloMosaic.sem_eq_zero_of_no_sems (by decide) r.2⟩) (run m ρ)

end Cert.Transducer.Reference

end
-- ==== Proof.Lattice.lean ====
/-
  The forward variables of the transducer's lattice over the reals: their definition by running log-sum-exps, the
  cell-by-cell recursion they satisfy, and the sums over windows that the doubling levels compute.
-/
module

public import Mathlib.Analysis.SpecialFunctions.Log.Basic
public import Mathlib.Algebra.BigOperators.Intervals
public import Mathlib.Tactic.Linarith
public import Mathlib.Tactic.Positivity
public import Mathlib.Tactic.Ring
public import Idealize.ShloMosaic.PureOps.Ideal.Laws

@[expose] public section

noncomputable section

namespace Cert.Transducer

open Finset

/-! ## Window sums -/

/-- The sum of the `w` values of `f` ending at `u` (fewer where the start is met). -/
def windowSum (f : ℕ → ℝ) (w u : ℕ) : ℝ := ∑ v ∈ Ico (u + 1 - w) (u + 1), f v

theorem windowSum_one (f : ℕ → ℝ) (u : ℕ) : windowSum f 1 u = f u := by simp [windowSum]

/-- A window of twice the width is the window and the one before it. -/
theorem windowSum_double (f : ℕ → ℝ) (d u : ℕ) :
    windowSum f (d + d) u = windowSum f d u + if u < d then 0 else windowSum f d (u - d) := by
  unfold windowSum
  split
  · rename_i h; rw [show u + 1 - (d + d) = u + 1 - d by omega, add_zero]
  · rename_i h
    rw [show u - d + 1 - d = u + 1 - (d + d) by omega, show u - d + 1 = u + 1 - d by omega, add_comm (∑ v ∈ _, f v),
      sum_Ico_consecutive _ (by omega) (by omega)]

/-- A window wide enough is the whole sum. -/
theorem windowSum_full (f : ℕ → ℝ) (w u : ℕ) (h : u < w) : windowSum f w u = ∑ v ∈ range (u + 1), f v := by
  unfold windowSum; rw [show u + 1 - w = 0 by omega, Nat.Ico_zero_eq_range]

theorem windowSum_pos (f : ℕ → ℝ) (hf : ∀ v, 0 < f v) (w u : ℕ) (hw : 0 < w) : 0 < windowSum f w u :=
  sum_pos (fun v _ => hf v) ⟨u, by simp; omega⟩

/-! ## The forward variables -/

/-- The label log-probabilities of row `t` summed over the columns before `u`. -/
def labelSum (em : ℕ → ℕ → ℝ) (t u : ℕ) : ℝ := ∑ v ∈ range u, em t v

/-- The forward variables: `bl` are the blank log-probabilities, `em` the label log-probabilities, by row and column. -/
def forward (bl em : ℕ → ℕ → ℝ) : ℕ → ℕ → ℝ
  | 0, u => labelSum em 0 u
  | t + 1, u => labelSum em (t + 1) u
      + Real.log (∑ v ∈ range (u + 1), Real.exp (forward bl em t v + bl t v - labelSum em (t + 1) v))

variable (bl em : ℕ → ℕ → ℝ)

theorem forward_start : forward bl em 0 0 = 0 := by simp [forward, labelSum]

theorem forward_first_row (u : ℕ) : forward bl em 0 (u + 1) = forward bl em 0 u + em 0 u := by
  simp [forward, labelSum, sum_range_succ]

theorem forward_first_column (t : ℕ) : forward bl em (t + 1) 0 = forward bl em t 0 + bl t 0 := by
  simp [forward, labelSum]

theorem forward_inner (t u : ℕ) : forward bl em (t + 1) (u + 1)
    = Real.log (Real.exp (forward bl em t (u + 1) + bl t (u + 1)) + Real.exp (forward bl em (t + 1) u + em (t + 1) u)) := by
  have hp : ∀ n, 0 < ∑ v ∈ range (n + 1), Real.exp (forward bl em t v + bl t v - labelSum em (t + 1) v) := fun n =>
    sum_pos (fun _ _ => Real.exp_pos _) ⟨0, by simp⟩
  have hl : labelSum em (t + 1) (u + 1) = labelSum em (t + 1) u + em (t + 1) u := by simp [labelSum, sum_range_succ]
  have he : Real.exp (forward bl em (t + 1) (u + 1))
      = Real.exp (forward bl em t (u + 1) + bl t (u + 1)) + Real.exp (forward bl em (t + 1) u + em (t + 1) u) := by
    have hr : forward bl em (t + 1) u + em (t + 1) u = labelSum em (t + 1) (u + 1)
        + Real.log (∑ v ∈ range (u + 1), Real.exp (forward bl em t v + bl t v - labelSum em (t + 1) v)) := by
      rw [hl, forward]; ring
    rw [hr, forward, Real.exp_add, Real.exp_log (hp _), sum_range_succ, mul_add, ← Real.exp_add, Real.exp_add (labelSum em (t + 1) (u + 1)) (Real.log _),
      Real.exp_log (hp _), add_comm]
    congr 2
    ring
  rw [← he, Real.log_exp]

/-! ## log (exp a + exp b) by the larger of the two, and minus infinity -/

theorem logAddExp_real (a b : ℝ) :
    max a b + Real.log (1 + Real.exp (-|a - b|)) = Real.log (Real.exp a + Real.exp b) := by
  rcases le_total a b with h | h
  · rw [max_eq_right h, abs_of_nonpos (by linarith), neg_neg,
      show Real.exp a + Real.exp b = Real.exp b * (1 + Real.exp (a - b)) by
        rw [mul_add, ← Real.exp_add]; ring_nf,
      Real.log_mul (Real.exp_pos _).ne' (by positivity), Real.log_exp]
  · rw [max_eq_left h, abs_of_nonneg (by linarith),
      show Real.exp a + Real.exp b = Real.exp a * (1 + Real.exp (-(a - b))) by
        rw [mul_add, ← Real.exp_add]; ring_nf,
      Real.log_mul (Real.exp_pos _).ne' (by positivity), Real.log_exp]

open Idealize.ShloMosaic

/-- The larger of two reals among the extended reals. -/
theorem coe_max (a b : ℝ) : max (a : EReal) (b : EReal) = ((max a b : ℝ) : EReal) :=
  ((EReal.coe_strictMono.monotone).map_max).symm

theorem log_coe_pos (r : ℝ) (h : 0 < r) : Ideal.log (r : EReal) = ((Real.log r : ℝ) : EReal) := by
  rw [Ideal.log_coe, if_neg (not_le.mpr h)]

theorem log1p_coe_pos (r : ℝ) (h : 0 < 1 + r) : Ideal.log1p (r : EReal) = ((Real.log (1 + r) : ℝ) : EReal) := by
  show Ideal.log (1 + (r : EReal)) = _
  rw [← EReal.coe_one, ← EReal.coe_add, log_coe_pos _ h]

/-- Both spellings of log (exp a + exp b): the exponent `0 - |a - b|` or `-|a - b|`. -/
theorem logAddExp_coe (a b : ℝ) :
    max (a : EReal) (b : EReal) + Ideal.log1p (Ideal.exp (0 - max ((a : EReal) - b) (-((a : EReal) - b))))
      = ((Real.log (Real.exp a + Real.exp b) : ℝ) : EReal) := by
  rw [← EReal.coe_sub, ← EReal.coe_neg, coe_max, coe_max, zero_sub, ← EReal.coe_neg, Ideal.exp_coe,
    log1p_coe_pos _ (by positivity), ← EReal.coe_add, ← logAddExp_real]
  rfl

theorem logAddExp_coe_neg (a b : ℝ) :
    max (a : EReal) (b : EReal) + Ideal.log1p (Ideal.exp (-max ((a : EReal) - b) (-((a : EReal) - b))))
      = ((Real.log (Real.exp a + Real.exp b) : ℝ) : EReal) := by
  rw [← logAddExp_coe, zero_sub]

/-- Against minus infinity it is the other. -/
theorem logAddExp_bot (a : ℝ) :
    max (a : EReal) ⊥ + Ideal.log1p (Ideal.exp (0 - max ((a : EReal) - ⊥) (-((a : EReal) - ⊥)))) = (a : EReal) := by
  have h : (a : EReal) - ⊥ = ⊤ := by rw [sub_eq_add_neg, EReal.neg_bot]; exact EReal.coe_add_top a
  rw [h, max_eq_left bot_le, max_eq_left (by simp), zero_sub, EReal.neg_top]
  have h0 : Ideal.exp ⊥ = 0 := rfl
  rw [h0, ← EReal.coe_zero, log1p_coe_pos _ (by norm_num), ← EReal.coe_add]
  simp

end Cert.Transducer

end
-- ==== Proof.Rows.lean ====
/-
  One row of the kernel over the extended reals, where every array holds real numbers: its running sums and running
  log-sum-exps, its log-probabilities, its forward variables.
-/
module

public import proofs.«01_k».proof.Proof.Step
public import proofs.«01_k».proof.Proof.Lattice
public import proofs.«01_k».proof.Proof.Gen.KernelIdeal
public import Idealize.ShloMosaic.Lib.Pointwise
public import Idealize.ShloMosaic.Lib.Pipeline.Value

@[expose] public section

set_option maxRecDepth 16384

noncomputable section

namespace Cert.Transducer

open Cert.KernelIdeal Cert.KernelIdeal.Gen
open Idealize.ShloMosaic

/-- An `[8, 65]` array holds the real numbers `f b u`. -/
def Holds (v : FVec Ideal S8x65 .f32) (f : ℕ → ℕ → ℝ) : Prop :=
  ∀ (b : Fin 8) (u : Fin 65), v (ix2 b u) = ((f b u : ℝ) : EReal)

/-! ## The doubling levels -/

/-- An array moved right by `d` columns, read at an index. -/
theorem moved_apply (d r : ℕ) (hdr : d + r = 65) (hs : S8x65.Slices ![0, 0] ⟨2, ![8, r]⟩)
    (hc : Shape.Concatenates [⟨2, ![8, d]⟩, ⟨2, ![8, r]⟩] S8x65 1) (fill : Ideal .f32) (v : FVec Ideal S8x65 .f32)
    (b : Fin 8) (u : Fin 65) :
    moved ⟨2, ![8, d]⟩ ⟨2, ![8, r]⟩ hs hc fill v (ix2 b u)
      = if u.val < d then fill else v (ix2 b ⟨u.val - d, by omega⟩) := by
  unfold moved
  split
  · rename_i h
    rw [concatenate_pair_apply_left (s₁ := ⟨2, ![8, d]⟩) (s₂ := ⟨2, ![8, r]⟩) 1 _ _ hc (ix2 b u) rfl
      (ix2 b ⟨u.val, h⟩) (fun a => by fin_cases a <;> rfl)]
    rfl
  · rename_i h
    rw [concatenate_pair_apply_right (s₁ := ⟨2, ![8, d]⟩) (s₂ := ⟨2, ![8, r]⟩) 1 _ _ hc (ix2 b u) rfl rfl
      (ix2 b ⟨u.val - d, by omega⟩) (fun a ha => by
        match a with
        | ⟨0, _⟩ => rfl
        | ⟨1, _⟩ => exact absurd rfl ha) (by show u.val - d + d = u.val; omega)]
    unfold extractStridedSlice
    refine congrArg v (funext fun a => ?_)
    match a with
    | ⟨0, _⟩ => exact Fin.ext (Nat.zero_add _)
    | ⟨1, _⟩ => exact Fin.ext (Nat.zero_add _)

/-- A level of the running sum doubles the window. -/
theorem sumLevel_holds (d r : ℕ) (hdr : d + r = 65) (hs : S8x65.Slices ![0, 0] ⟨2, ![8, r]⟩)
    (hc : Shape.Concatenates [⟨2, ![8, d]⟩, ⟨2, ![8, r]⟩] S8x65 1) (v : FVec Ideal S8x65 .f32) (f : ℕ → ℕ → ℝ)
    (hv : Holds v fun b u => windowSum (f b) d u) :
    Holds (sumLevel ⟨2, ![8, d]⟩ ⟨2, ![8, r]⟩ hs hc v) fun b u => windowSum (f b) (d + d) u := fun b u => by
  show v (ix2 b u) + moved ⟨2, ![8, d]⟩ ⟨2, ![8, r]⟩ hs hc _ v (ix2 b u) = _
  beta_reduce
  rw [moved_apply d r hdr, windowSum_double, EReal.coe_add, hv b u]
  split
  · exact congrArg _ Ideal.ofBits_zero_f32
  · rw [hv]

/-- The named constant is minus infinity. -/
theorem neg_eq : (Named.named (F := Ideal) κ "neg" (φ := .f32) 0xF149F2CA#32) = (⊥ : EReal) :=
  IdealRules.named_const.ideal_named_scalar _ _ _ _ rfl

/-- A level of the running log-sum-exp doubles the window. -/
theorem lseLevel_holds (d r : ℕ) (hd : 0 < d) (hdr : d + r = 65) (hs : S8x65.Slices ![0, 0] ⟨2, ![8, r]⟩)
    (hc : Shape.Concatenates [⟨2, ![8, d]⟩, ⟨2, ![8, r]⟩] S8x65 1) (v : FVec Ideal S8x65 .f32) (f : ℕ → ℕ → ℝ)
    (hf : ∀ b u, 0 < f b u) (hv : Holds v fun b u => Real.log (windowSum (f b) d u)) :
    Holds (lseLevel ⟨2, ![8, d]⟩ ⟨2, ![8, r]⟩ hs hc v) fun b u => Real.log (windowSum (f b) (d + d) u) := fun b u => by
  have hp : ∀ u, 0 < windowSum (f b) d u := fun u => windowSum_pos (f b) (hf b) d u hd
  have hz : (Scalar.ofBits (F := Ideal) .f32 0x00000000#32 : EReal) = 0 := Ideal.ofBits_zero_f32
  show max (v (ix2 b u)) (moved ⟨2, ![8, d]⟩ ⟨2, ![8, r]⟩ hs hc _ v (ix2 b u))
    + Ideal.log1p (Ideal.exp (Scalar.ofBits (F := Ideal) .f32 0x00000000#32 - max (v (ix2 b u) - moved ⟨2, ![8, d]⟩ ⟨2, ![8, r]⟩ hs hc _ v (ix2 b u))
      (-(v (ix2 b u) - moved ⟨2, ![8, d]⟩ ⟨2, ![8, r]⟩ hs hc _ v (ix2 b u))))) = _
  beta_reduce
  rw [moved_apply d r hdr, windowSum_double, hv b u, hz]
  split
  · rw [neg_eq, logAddExp_bot, add_zero]
  · rw [hv, logAddExp_coe, Real.exp_log (hp _), Real.exp_log (hp _)]

/-- The running sum along the second axis. -/
theorem runningSum_holds (v : FVec Ideal S8x65 .f32) (f : ℕ → ℕ → ℝ) (hv : Holds v f) :
    Holds (runningSum v) fun b u => ∑ k ∈ Finset.range (u + 1), f b k := by
  have h1 : Holds v fun b u => windowSum (f b) 1 u := fun b u => by beta_reduce; rw [hv, windowSum_one]
  have h2 := sumLevel_holds 1 64 rfl slices_S8x65_o0_0_S8x64 concatenates_S8x1_S8x64_S8x65_d1 _ f h1
  have h4 := sumLevel_holds 2 63 rfl slices_S8x65_o0_0_S8x63 concatenates_S8x2_S8x63_S8x65_d1 _ f h2
  have h8 := sumLevel_holds 4 61 rfl slices_S8x65_o0_0_S8x61 concatenates_S8x4_S8x61_S8x65_d1 _ f h4
  have h16 := sumLevel_holds 8 57 rfl slices_S8x65_o0_0_S8x57 concatenates_S8x8_S8x57_S8x65_d1 _ f h8
  have h32 := sumLevel_holds 16 49 rfl slices_S8x65_o0_0_S8x49 concatenates_S8x16_S8x49_S8x65_d1 _ f h16
  have h64 := sumLevel_holds 32 33 rfl slices_S8x65_o0_0_S8x33 concatenates_S8x32_S8x33_S8x65_d1 _ f h32
  have h128 := sumLevel_holds 64 1 rfl slices_S8x65_o0_0_S8x1 concatenates_S8x64_S8x1_S8x65_d1 _ f h64
  intro b u
  exact (h128 b u).trans (by beta_reduce; rw [windowSum_full _ _ _ (by omega)])

/-- The running log-sum-exp along the second axis. -/
theorem runningLse_holds (v : FVec Ideal S8x65 .f32) (f : ℕ → ℕ → ℝ) (hv : Holds v f) :
    Holds (runningLse v) fun b u => Real.log (∑ k ∈ Finset.range (u + 1), Real.exp (f b k)) := by
  have hp : ∀ b u : ℕ, 0 < Real.exp (f b u) := fun b u => Real.exp_pos _
  have h1 : Holds v fun b u => Real.log (windowSum (fun k => Real.exp (f b k)) 1 u) := fun b u => by
    beta_reduce
    rw [hv, windowSum_one, Real.log_exp]
  have h2 := lseLevel_holds 1 64 (by decide) rfl slices_S8x65_o0_0_S8x64 concatenates_S8x1_S8x64_S8x65_d1 _ _ hp h1
  have h4 := lseLevel_holds 2 63 (by decide) rfl slices_S8x65_o0_0_S8x63 concatenates_S8x2_S8x63_S8x65_d1 _ _ hp h2
  have h8 := lseLevel_holds 4 61 (by decide) rfl slices_S8x65_o0_0_S8x61 concatenates_S8x4_S8x61_S8x65_d1 _ _ hp h4
  have h16 := lseLevel_holds 8 57 (by decide) rfl slices_S8x65_o0_0_S8x57 concatenates_S8x8_S8x57_S8x65_d1 _ _ hp h8
  have h32 := lseLevel_holds 16 49 (by decide) rfl slices_S8x65_o0_0_S8x49 concatenates_S8x16_S8x49_S8x65_d1 _ _ hp h16
  have h64 := lseLevel_holds 32 33 (by decide) rfl slices_S8x65_o0_0_S8x33 concatenates_S8x32_S8x33_S8x65_d1 _ _ hp h32
  have h128 := lseLevel_holds 64 1 (by decide) rfl slices_S8x65_o0_0_S8x1 concatenates_S8x64_S8x1_S8x65_d1 _ _ hp h64
  intro b u
  exact (h128 b u).trans (by beta_reduce; rw [windowSum_full _ _ _ (by omega)])

/-! ## The log-probabilities of a row -/

/-- A row's logits are the real numbers `x b u a`. -/
def HoldsRow (v : Vec Ideal S8x1x65x256 .f32) (x : ℕ → ℕ → ℕ → ℝ) : Prop :=
  ∀ (b : Fin 8) (u : Fin 65) (a : Fin 256), v (ix4 b 0 u a) = ((x b u a : ℝ) : EReal)

/-- log Σ exp over the vocabulary. -/
def lseOf (y : ℕ → ℝ) : ℝ := Real.log (∑ a ∈ Finset.range 256, Real.exp (y a))

/-- Sums of reals among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Two halves of a vocabulary's entries are all of them. -/
theorem sum_halves (f : ℕ → ℝ) : ∑ k : Fin 128, (f k + f (128 + k)) = ∑ a ∈ Finset.range 256, f a := by
  rw [Fin.sum_univ_eq_sum_range (fun k => f k + f (128 + k)) 128, Finset.sum_add_distrib,
    Finset.sum_range_add f 128 128]

theorem rowLse_holds (v : Vec Ideal S8x1x65x256 .f32) (x : ℕ → ℕ → ℕ → ℝ) (hv : HoldsRow v x) :
    Holds (rowLse v) fun b u => lseOf (x b u) := fun b u => by
  have h : rowLse v (ix2 b u) = Ideal.log (∑ k : Fin 128, (Ideal.exp (v (ix4 b 0 u ⟨k.val, by omega⟩))
      + Ideal.exp (v (ix4 b 0 u ⟨128 + k.val, by omega⟩)))) := by pointwise [rowLse, rowLogits]
  rw [h]
  simp only [hv _ _ _, Ideal.exp_coe, ← EReal.coe_add]
  rw [coe_sum, sum_halves (fun a => Real.exp (x b u a)), log_coe_pos _ (Finset.sum_pos (fun _ _ => Real.exp_pos _) ⟨0, by simp⟩)]
  rfl

theorem rowBlank_holds (v : Vec Ideal S8x1x65x256 .f32) (x : ℕ → ℕ → ℕ → ℝ) (hv : HoldsRow v x) :
    Holds (rowBlank v) fun b u => x b u 0 - lseOf (x b u) := fun b u => by
  have h : rowBlank v (ix2 b u) = v (ix4 b 0 u 0) - rowLse v (ix2 b u) := by pointwise [rowBlank, rowLogits]
  rw [h, hv, rowLse_holds v x hv, ← EReal.coe_sub]
  rfl

/-- The one-hot labels. -/
def IsOneHot (oh : Vec Ideal S8x64x256 .f32) (lab : ℕ → ℕ → ℕ) : Prop :=
  ∀ (b : Fin 8) (u : Fin 64) (a : Fin 256), oh (ix3 b u a) = (((if lab b u = a then 1 else 0 : ℝ)) : EReal)

/-- A row's running sums: of its label log-probabilities, before each column. -/
theorem rowCum_holds (oh : Vec Ideal S8x64x256 .f32) (lab : ℕ → ℕ → ℕ) (hl : ∀ b u, lab b u < 256) (ho : IsOneHot oh lab)
    (v : Vec Ideal S8x1x65x256 .f32) (x : ℕ → ℕ → ℕ → ℝ) (hv : HoldsRow v x) :
    Holds (rowCum oh v) fun b u => ∑ k ∈ Finset.range u, (x b k (lab b k) - lseOf (x b k)) := by
  have he : ∀ (b : Fin 8) (u : Fin 64), rowEmit oh v (ix2 b u) = ((x b u (lab b u) - lseOf (x b u) : ℝ) : EReal) := fun b u => by
    have h : rowEmit oh v (ix2 b u) = ∑ k : Fin 128,
        (v (ix4 b 0 ⟨u.val, by omega⟩ ⟨k.val, by omega⟩) * oh (ix3 b u ⟨k.val, by omega⟩)
          + v (ix4 b 0 ⟨u.val, by omega⟩ ⟨128 + k.val, by omega⟩) * oh (ix3 b u ⟨128 + k.val, by omega⟩))
        - rowLse v (ix2 b ⟨u.val, by omega⟩) := by pointwise [rowEmit, rowPicked, rowLogits]
    rw [h, rowLse_holds v x hv, EReal.coe_sub]
    simp only [hv _ _ _, ho _ _ _, ← EReal.coe_mul, ← EReal.coe_add]
    rw [coe_sum, sum_halves (fun a => x b u a * (if lab b u = a then 1 else 0))]
    simp [hl]
  have hc : Holds (concatenate S8x65 1 [⟨S8x1, broadcast S8x1 (Scalar.ofBits .f32 0x00000000#32)⟩, ⟨S8x64, rowEmit oh v⟩]
      concatenates_S8x1_S8x64_S8x65_d1) fun b u => if u = 0 then 0 else x b (u - 1) (lab b (u - 1)) - lseOf (x b (u - 1)) := fun b u => by
    have h : concatenate S8x65 1 [⟨S8x1, broadcast S8x1 (Scalar.ofBits (F := Ideal) .f32 0x00000000#32)⟩, ⟨S8x64, rowEmit oh v⟩]
      concatenates_S8x1_S8x64_S8x65_d1 (ix2 b u) = if h : u.val < 1 then 0 else rowEmit oh v (ix2 b ⟨u.val - 1, by omega⟩) := by pointwise []
    rw [h]
    beta_reduce
    by_cases hu : u.val = 0
    · rw [dif_pos (by omega), if_pos hu]; rfl
    · rw [dif_neg (by omega), if_neg hu, he]
  intro b u
  rw [show rowCum oh v = runningSum _ from rfl, runningSum_holds _ _ hc b u]
  beta_reduce
  rw [Finset.sum_range_succ']
  simp

/-- The next row's forward variables, from the row before. -/
theorem rowNext_holds (oh : Vec Ideal S8x64x256 .f32) (v : Vec Ideal S8x1x65x256 .f32) (p q : FVec Ideal S8x65 .f32)
    (f g c : ℕ → ℕ → ℝ) (hp : Holds p f) (hq : Holds q g) (hc : Holds (rowCum oh v) c) :
    Holds (rowNext oh v p q) fun b u =>
      c b u + Real.log (∑ k ∈ Finset.range (u + 1), Real.exp (f b k + g b k - c b k)) := fun b u => by
  have h : Holds (subf (addf p q) (rowCum oh v)) fun b u => f b u + g b u - c b u := fun b u => by
    show p (ix2 b u) + q (ix2 b u) - rowCum oh v (ix2 b u) = _
    rw [hp, hq, hc, ← EReal.coe_add, ← EReal.coe_sub]
  show rowCum oh v (ix2 b u) + runningLse (subf (addf p q) (rowCum oh v)) (ix2 b u) = _
  rw [hc, runningLse_holds _ _ h, ← EReal.coe_add]

/-- Which cells are the last ones of their sequences. -/
theorem rowIsLast_apply (lastT lastU : Vec Ideal S8x1 .i32) (L U : ℕ → ℕ) (hL : ∀ b, L b < 512) (hU : ∀ b, U b < 65)
    (hT : ∀ b : Fin 8, lastT (ix2 b 0) = BitVec.ofNat 32 (L b + 1)) (hW : ∀ b : Fin 8, lastU (ix2 b 0) = BitVec.ofNat 32 (U b))
    (i j : ℕ) (hi : i < 32) (hj : j < 16) (b : Fin 8) (u : Fin 65) :
    rowIsLast (BitVec.ofNat 32 i) (BitVec.ofNat 32 j) lastT lastU (ix2 b u)
      = if L b = 16 * i + j ∧ u.val = U b then 1#1 else 0#1 := by
  have h : rowIsLast (BitVec.ofNat 32 i) (BitVec.ofNat 32 j) lastT lastU (ix2 b u)
      = IntOp.andi (IntOp.cmpi .eq (IntOp.subi (lastT (ix2 b 0)) 1#32)
          (Scalar.addi (Scalar.muli (BitVec.ofNat 32 i) 16#32) (BitVec.ofNat 32 j)))
        (IntOp.cmpi .eq (BitVec.ofNat 32 u) (lastU (ix2 b 0))) := by pointwise [rowIsLast]
  have h1 : IntOp.subi (BitVec.ofNat 32 (L b + 1)) 1#32 = BitVec.ofNat 32 (L b) := by
    apply BitVec.eq_of_toNat_eq
    have := hL b
    simp only [IntOp.subi, BitVec.toNat_sub, BitVec.toNat_ofNat]; omega
  have h2 : Scalar.addi (Scalar.muli (BitVec.ofNat 32 i) 16#32) (BitVec.ofNat 32 j) = BitVec.ofNat 32 (16 * i + j) := by
    apply BitVec.eq_of_toNat_eq
    simp only [Scalar.addi, Scalar.muli, IntOp.addi, IntOp.muli, BitVec.toNat_add, BitVec.toNat_mul, BitVec.toNat_ofNat]; omega
  have h3 : ∀ m n : ℕ, m < 512 → n < 512 → IntOp.cmpi .eq (BitVec.ofNat 32 m) (BitVec.ofNat 32 n) = if m = n then 1#1 else 0#1 := by
    intro m n hm hn
    have : BitVec.ofNat 32 m = BitVec.ofNat 32 n ↔ m = n := by
      rw [← BitVec.toNat_inj, BitVec.toNat_ofNat, BitVec.toNat_ofNat]; omega
    show BitVec.ofBool (BitVec.ofNat 32 m == BitVec.ofNat 32 n) = _
    by_cases e : m = n
    · rw [if_pos e, e, beq_self_eq_true]; rfl
    · rw [if_neg e, beq_eq_false_iff_ne.mpr fun h => e (this.mp h)]; rfl
  have := hL b
  have := hU b
  rw [h, hT, hW, h1, h2, h3 _ _ (hL b) (by omega), h3 _ _ (by omega) (by omega)]
  by_cases e : L b = 16 * i + j <;> by_cases e' : u.val = U b <;> simp [e, e', IntOp.andi]

end Cert.Transducer

end
-- ==== Proof.Model.lean ====
/-
  The transducer's loss over the real numbers, and the kernel's rows as its forward variables.
-/
module

public import proofs.«01_k».proof.Proof.Rows

@[expose] public section

set_option maxRecDepth 16384

noncomputable section

namespace Cert.Transducer

open Cert.KernelIdeal Cert.KernelIdeal.Gen
open Idealize.ShloMosaic

/-- A batch of sequences: the logits by sequence, frame, column and token; the labels; the last frame and last column
of each sequence. -/
structure Batch where
  x : ℕ → ℕ → ℕ → ℕ → ℝ
  lab : ℕ → ℕ → ℕ
  L : ℕ → ℕ
  U : ℕ → ℕ
  lab_lt : ∀ b u, lab b u < 256
  L_lt : ∀ b, L b < 512
  U_lt : ∀ b, U b < 65

namespace Batch

variable (B : Batch)

/-- The blank log-probabilities. -/
def bl (b t u : ℕ) : ℝ := B.x b t u 0 - lseOf (B.x b t u)

/-- The label log-probabilities. -/
def em (b t u : ℕ) : ℝ := B.x b t u (B.lab b u) - lseOf (B.x b t u)

/-- The forward variables. -/
def fw (b t u : ℕ) : ℝ := forward (B.bl b) (B.em b) t u

/-- A sequence's log-likelihood. -/
def ll (b : ℕ) : ℝ := B.fw b (B.L b) (B.U b) + B.bl b (B.L b) (B.U b)

/-- The mean negated log-likelihood of the eight sequences. -/
def loss : ℝ := (0 - ∑ b : Fin 8, B.ll b) * (1 / 8)

/-- The log-likelihoods that the first `n` rows decide, each at its last column. -/
def decided (n b u : ℕ) : ℝ := if B.L b < n ∧ u = B.U b then B.ll b else 0

end Batch

/-- What the kernel carries after its first `n` rows. -/
structure After (B : Batch) (n : ℕ) (s : Carry Ideal) : Prop where
  alpha : ∀ m, n = m + 1 → Holds s.alpha fun b u => B.fw b m u
  blank : ∀ m, n = m + 1 → Holds s.blank fun b u => B.bl b m u
  acc : Holds s.acc fun b u => B.decided n b u

/-- One row's step. -/
theorem rowStep_after (B : Batch) (lastT lastU : Vec Ideal S8x1 .i32) (oh : Vec Ideal S8x64x256 .f32)
    (hT : ∀ b : Fin 8, lastT (ix2 b 0) = BitVec.ofNat 32 (B.L b + 1)) (hW : ∀ b : Fin 8, lastU (ix2 b 0) = BitVec.ofNat 32 (B.U b))
    (ho : IsOneHot oh B.lab) (i j : ℕ) (hi : i < 32) (hj : j < 16) (v : Vec Ideal S8x1x65x256 .f32)
    (hv : HoldsRow v fun b u a => B.x b (16 * i + j) u a) (s : Carry Ideal) (hs : After B (16 * i + j) s) :
    After B (16 * i + j + 1) (rowStep (BitVec.ofNat 32 i) lastT lastU oh j v s) := by
  have hcum : Holds (rowCum oh v) fun b u => labelSum (B.em b) (16 * i + j) u := rowCum_holds oh B.lab B.lab_lt ho v _ hv
  have hbl : Holds (rowBlank v) fun b u => B.bl b (16 * i + j) u := rowBlank_holds v _ hv
  have hnext : ∀ m, 16 * i + j = m + 1 → Holds (rowNext oh v s.alpha s.blank) fun b u => B.fw b (16 * i + j) u := fun m hm => by
    have h := rowNext_holds oh v _ _ _ _ _ (hs.alpha m hm) (hs.blank m hm) hcum
    simp only [hm] at h ⊢
    exact h
  have ha : Holds (rowStep (BitVec.ofNat 32 i) lastT lastU oh j v s).alpha fun b u => B.fw b (16 * i + j) u := by
    match j, i with
    | 0, 0 => exact hcum
    | 0, i + 1 =>
      have hne : Scalar.cmpi .eq (BitVec.ofNat 32 (i + 1)) 0#32 = 0#1 := by
        show BitVec.ofBool (BitVec.ofNat 32 (i + 1) == 0#32) = _
        rw [beq_eq_false_iff_ne.mpr fun h => by
          have := congrArg BitVec.toNat h
          simp only [BitVec.toNat_ofNat] at this; omega]
        rfl
      have he : (rowStep (BitVec.ofNat 32 (i + 1)) lastT lastU oh 0 v s).alpha = rowNext oh v s.alpha s.blank := by
        show Scalar.select (Scalar.cmpi .eq (BitVec.ofNat 32 (i + 1)) 0#32) _ _ = _
        rw [hne]; rfl
      rw [he]
      exact hnext (16 * i + 15) (by omega)
    | j + 1, i => exact hnext (16 * i + j) (by omega)
  refine ⟨fun m hm => ?_, fun m hm => ?_, fun b u => ?_⟩
  · obtain rfl : 16 * i + j = m := by omega
    exact ha
  · obtain rfl : 16 * i + j = m := by omega
    exact hbl
  · have hl := rowIsLast_apply lastT lastU B.L B.U B.L_lt B.U_lt hT hW i j hi hj b u
    show s.acc (ix2 b u) + Scalar.select (rowIsLast (BitVec.ofNat 32 i) (BitVec.ofNat 32 j) lastT lastU (ix2 b u))
      ((rowStep (BitVec.ofNat 32 i) lastT lastU oh j v s).alpha (ix2 b u) + rowBlank v (ix2 b u))
      (Scalar.ofBits .f32 0x00000000#32) = _
    have hz : (Scalar.ofBits (F := Ideal) .f32 0x00000000#32) = ((0 : ℝ) : EReal) := Ideal.ofBits_zero_f32
    rw [hl, ha, hbl, hs.acc, hz, ← EReal.coe_add]
    beta_reduce
    unfold Batch.decided
    by_cases h : B.L b = 16 * i + j ∧ u.val = B.U b
    · obtain ⟨h1, h2⟩ := h
      rw [if_pos (⟨h1, h2⟩ : B.L b = 16 * i + j ∧ u.val = B.U b),
        if_neg (show ¬(B.L b < 16 * i + j ∧ u.val = B.U b) by omega),
        if_pos (show B.L b < 16 * i + j + 1 ∧ u.val = B.U b by omega), Batch.ll, h1, ← h2]
      show ((0 : ℝ) : EReal) + ((_ : ℝ) : EReal) = _
      rw [← EReal.coe_add, zero_add]
    · rw [if_neg h]
      show ((_ : ℝ) : EReal) + ((0 : ℝ) : EReal) = _
      rw [← EReal.coe_add, add_zero]
      congr 1
      by_cases h' : B.L b < 16 * i + j ∧ u.val = B.U b
      · rw [if_pos h', if_pos (by omega)]
      · rw [if_neg h', if_neg (by omega)]

/-- A block of sixteen rows. -/
theorem blockSteps_after (B : Batch) (lastT lastU : Vec Ideal S8x1 .i32) (oh : Vec Ideal S8x64x256 .f32)
    (hT : ∀ b : Fin 8, lastT (ix2 b 0) = BitVec.ofNat 32 (B.L b + 1)) (hW : ∀ b : Fin 8, lastU (ix2 b 0) = BitVec.ofNat 32 (B.U b))
    (ho : IsOneHot oh B.lab) (i : ℕ) (hi : i < 32) (rows : ℕ → Vec Ideal S8x1x65x256 .f32)
    (hr : ∀ j < 16, HoldsRow (rows j) fun b u a => B.x b (16 * i + j) u a) (s : Carry Ideal) (hs : i ≠ 0 → After B (16 * i) s) :
    ∀ n ≤ 16, After B (16 * i + n) (blockSteps (BitVec.ofNat 32 i) lastT lastU oh rows s n)
  | 0, _ => by
    by_cases h : i = 0
    · subst h
      refine ⟨fun m hm => by omega, fun m hm => by omega, fun b u => ?_⟩
      beta_reduce
      rw [Batch.decided, if_neg (by omega)]
      exact Ideal.ofBits_zero_f32
    · obtain ⟨h1, h2, h3⟩ := hs h
      have hne : Scalar.cmpi .eq (BitVec.ofNat 32 i) 0#32 = 0#1 := by
        show BitVec.ofBool (BitVec.ofNat 32 i == 0#32) = _
        rw [beq_eq_false_iff_ne.mpr fun h => by
          have := congrArg BitVec.toNat h
          simp only [BitVec.toNat_ofNat] at this; omega]
        rfl
      refine ⟨h1, h2, ?_⟩
      show Holds (Scalar.select (Scalar.cmpi .eq (BitVec.ofNat 32 i) 0#32) _ _) _
      rw [hne]
      exact h3
  | n + 1, hn => rowStep_after B lastT lastU oh hT hW ho i n hi (by omega) _ (hr n (by omega)) _
      (blockSteps_after B lastT lastU oh hT hW ho i hi rows hr s hs n (by omega))

/-- The loss that the accumulated log-likelihoods give. -/
theorem lossOf_decided (B : Batch) (v : FVec Ideal S8x65 .f32) (hv : Holds v fun b u => B.decided 512 b u) :
    lossOf v (ix2 0 0) = ((B.loss : ℝ) : EReal) := by
  have h : lossOf v (ix2 0 0) = Ideal.div (0 - ∑ b : Fin 8, ∑ u : Fin 65, v (ix2 b u)) (Ideal.ofBits .f32 1090519040#32) := by
    pointwise [lossOf]
  have h8 : Ideal.ofBits .f32 1090519040#32 = ((8 : ℝ) : EReal) := by
    simp [Ideal.ofBits, Ideal.ieee, -EReal.coe_mul]; norm_num
  have hs : ∀ b : Fin 8, ∑ u : Fin 65, B.decided 512 b u = B.ll b := fun b => by
    rw [Finset.sum_eq_single (⟨B.U b, B.U_lt b⟩ : Fin 65)]
    · rw [Batch.decided, if_pos ⟨B.L_lt b, rfl⟩]
    · intro u _ hu
      rw [Batch.decided, if_neg fun h => hu (Fin.ext h.2)]
    · simp
  rw [h, h8]
  simp only [hv _ _, coe_sum, hs]
  rw [← EReal.coe_zero, ← EReal.coe_sub, Ideal.div_coe (by norm_num)]
  rfl

end Cert.Transducer

end
-- ==== Proof.KernelValue.lean ====
/-
  What the kernel returns on a batch of real logits: its transducer loss.
-/
module

public import proofs.«01_k».proof.Proof.Model
public import proofs.«01_k».proof.Proof.Region
public import Idealize.ShloMosaic.Lib.Pipeline.ValueKit

@[expose] public section

set_option maxRecDepth 16384

noncomputable section

namespace Cert.Transducer

open Cert.KernelIdeal Cert.KernelIdeal.Gen
open Idealize.ShloMosaic Idealize.ShloMosaic.TcCoe Idealize.ShloMosaic.Tactic Idealize.SL.Sem

/-- The four argument arrays hold the batch. -/
structure Batch.In (B : Batch) (x : FVec Ideal S8x512x65x256 .f32) (labels : IVec S8x64 32) (T U : IVec S8 32) : Prop where
  x : ∀ (b : Fin 8) (t : Fin 512) (u : Fin 65) (a : Fin 256), x (ix4 b t u a) = ((B.x b t u a : ℝ) : EReal)
  labels : ∀ (b : Fin 8) (u : Fin 64), labels (ix2 b u) = BitVec.ofNat 32 (B.lab b u)
  T : ∀ b : Fin 8, T (ix1 b) = BitVec.ofNat 32 (B.L b + 1)
  U : ∀ b : Fin 8, U (ix1 b) = BitVec.ofNat 32 (B.U b)

variable (m : (ℓ : Loc nD τ sig) → Buf (Elt Ideal) ℓ) (c : Dev nD)

/-- Every window's block index at a point. -/
theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, t.val, 0, 0] := (by decide +kernel : ∀ t : Fin grid0.N, _)

theorem block_T (t : Fin cfg0.N) (b : Fin 8) : iblk m c 0 t (ix2 b 0) = m ((c : Thread nD τ).loc main_arg2) (ix1 b) := by
  blk_point [iblk, V, index_0 t]

theorem block_U (t : Fin cfg0.N) (b : Fin 8) : iblk m c 1 t (ix2 b 0) = m ((c : Thread nD τ).loc main_arg3) (ix1 b) := by
  blk_point [iblk, V, index_1 t]

theorem block_oh (t : Fin cfg0.N) (b : Fin 8) (u : Fin 64) (a : Fin 256) : iblk m c 2 t (ix3 b u a)
    = FloatOps.uitofp (F := Ideal) .f32 (IntOp.cmpi .eq (m ((c : Thread nD τ).loc main_arg1) (ix2 b u)) (BitVec.ofNat 32 a.val)) := by
  have h : iblk m c 2 t (ix3 b u a) = V m c main_v8 (ix3 b u a) := by blk_ext [iblk, index_2 t]
  rw [h]
  entry_read
  pointwise

theorem block_x (t : Fin cfg0.N) (b : Fin 8) (j : Fin 16) (u : Fin 65) (a : Fin 256) (h : 16 * t.val + j.val < 512) :
    iblk m c 3 t (ix4 b j u a) = m ((c : Thread nD τ).loc main_arg0) (ix4 b ⟨16 * t.val + j.val, h⟩ u a) := by
  blk_point [iblk, V, index_3 t]

/-- The grid's last point. -/
abbrev lastPoint : Fin cfg0.N := ⟨31, by decide +kernel⟩

variable (B : Batch) (hB : B.In (m ((c : Thread nD τ).loc main_arg0)) (m ((c : Thread nD τ).loc main_arg1))
  (m ((c : Thread nD τ).loc main_arg2)) (m ((c : Thread nD τ).loc main_arg3)))

include hB

/-- The labels reach the body as one-hot rows. -/
theorem block_oneHot (t : Fin cfg0.N) : IsOneHot (iblk m c 2 t) B.lab := fun b u a => by
  rw [block_oh, hB.labels]
  have : BitVec.ofNat 32 (B.lab b u) = BitVec.ofNat 32 a.val ↔ B.lab b u = a.val := by
    have := B.lab_lt b u
    rw [← BitVec.toNat_inj, BitVec.toNat_ofNat, BitVec.toNat_ofNat]; omega
  show (FloatOps.uitofp .f32 : BitVec 1 → Ideal .f32) (BitVec.ofBool (BitVec.ofNat 32 (B.lab b u) == BitVec.ofNat 32 a.val)) = _
  by_cases e : B.lab b u = a.val
  · rw [if_pos e, e, beq_self_eq_true]
    show (((1 : ℕ) : ℝ) : EReal) = _
    rw [Nat.cast_one]
  · rw [if_neg e, beq_eq_false_iff_ne.mpr fun h => e (this.mp h)]
    show (((0 : ℕ) : ℝ) : EReal) = _
    rw [Nat.cast_zero]

/-- What is carried past each point. -/
theorem carried_after : ∀ (n : ℕ) (h : n ≤ cfg0.N), n ≠ 0 → After B (16 * n) (carried m c n h)
  | 0, _, hn => absurd rfl hn
  | n + 1, h, _ => by
    have hN : cfg0.N = 32 := N_0
    have hc : (((grid0.coords (⟨n, h⟩ : Fin cfg0.N)) 0).val : ℕ) = n := coords_val ⟨n, h⟩
    rw [carried_succ m c ⟨n, h⟩]
    unfold pointStep
    rw [hc, show 16 * (n + 1) = 16 * n + 16 from rfl]
    refine blockSteps_after B _ _ _ (fun b => ?_) (fun b => ?_) (block_oneHot m c B hB _) n (by omega) _ (fun j hj => ?_) _
      (fun h0 => carried_after n (Nat.le_of_lt h) h0) 16 le_rfl
    · rw [block_T, hB.T]
    · rw [block_U, hB.U]
    · intro b u a
      show iblk m c 3 ⟨n, h⟩ (ix4 b (Fin.ofNat 16 j) u a) = _
      have e : (Fin.ofNat 16 j).val = j := Nat.mod_eq_of_lt hj
      rw [block_x m c ⟨n, h⟩ b (Fin.ofNat 16 j) u a (by show 16 * n + (Fin.ofNat 16 j).val < 512; omega), hB.x]
      show ((B.x b (16 * n + (Fin.ofNat 16 j).val) u a : ℝ) : EReal) = _
      rw [e]

/-- The output array after the grid. -/
theorem final : (dats m 0 c).arrAt 4 cfg0.N = fun _ => ((B.loss : ℝ) : EReal) := by
  have hN : cfg0.N = 32 := N_0
  refine (dats m 0 c).arrAt_eq_of_after_last 4 lastPoint (by decide +kernel) _ fun j => ?_
  blk_simp
  rw [after_4]
  refine (congrArg _ ?_).trans (lossOf_decided B _ (carried_after m c B hB 32 (by rw [hN]) (by decide)).acc)
  idx_vars j
  rw [Subsingleton.elim j0 0, Subsingleton.elim j1 0]

/-- The kernel's run: its result is the batch's loss. -/
theorem kernel_value (ρ : Dev nD → PrngReg) (r) (h : Pipeline.FramePost cfgs (dats m) 0 (V m) r) :
    r.2.mem ((c : Thread nD τ).loc main_v9) = fun _ => ((B.loss : ℝ) : EReal) :=
  ((h c).1 4).trans (final m c B hB)

end Cert.Transducer

end
-- ==== Proof.ReferenceLoop.lean ====
/-
  The reference's loop on a batch of real logits: cell by cell it computes the forward variables.
-/
module

public import proofs.«01_k».proof.Proof.Model
public import proofs.«01_k».proof.Proof.ReferenceFrame
public import Idealize.ShloMosaic.Lib.Routing.Words

@[expose] public section

set_option maxRecDepth 16384

noncomputable section

namespace Cert.Transducer.Reference

open Cert.ReferenceIdeal Cert.ReferenceIdeal.Gen Cert.ReferenceIdeal.Value
open Idealize.ShloMosaic Idealize.ShloMosaic.TcCoe Idealize.SL.Sem
open Idealize.ShloMosaic.StableHlo

/-! ## Reading and writing a column of one cell per sequence -/

section Column
variable {α : Type} {T W : ℕ}

theorem column_apply (x : (⟨3, ![8, T, W]⟩ : Shape).Idx → α) (st : Fin 3 → Int) (h : (⟨3, ![8, T, W]⟩ : Shape).Slices (fun _ => 0) S8x1x1)
    (t u : ℕ) (ht : t < T) (hu : u < W) (h0 : st 0 = 0) (h1 : st 1 = t) (h2 : st 2 = u) (b : Fin 8) :
    Host.dynamicSlice S8x1x1 x st h (ix3 b 0 0) = x (ix3 b ⟨t, ht⟩ ⟨u, hu⟩) := by
  rw [Host.dynamicSlice_apply]
  have c0 := Host.clampedStart_of_le h.1 st 0 0 h0 (by simp [S8x1x1])
  have c1 := Host.clampedStart_of_le h.1 st 1 t h1 (by simpa [S8x1x1] using ht)
  have c2 := Host.clampedStart_of_le h.1 st 2 u h2 (by simpa [S8x1x1] using hu)
  refine congrArg x (funext fun a => Fin.ext ?_)
  match a with
  | ⟨0, _⟩ => exact (congrArg (· + b.val) c0).trans (Nat.zero_add _)
  | ⟨1, _⟩ => exact c1
  | ⟨2, _⟩ => exact c2

theorem setColumn_apply (x : (⟨3, ![8, T, W]⟩ : Shape).Idx → α) (y : S8x1x1.Idx → α) (st : Fin 3 → Int)
    (h : (⟨3, ![8, T, W]⟩ : Shape).Slices (fun _ => 0) S8x1x1)
    (t u : ℕ) (ht : t < T) (hu : u < W) (h0 : st 0 = 0) (h1 : st 1 = t) (h2 : st 2 = u) (b : Fin 8) (t' : Fin T) (u' : Fin W) :
    Host.dynamicUpdateSlice x y st h (ix3 b t' u') = if t'.val = t ∧ u'.val = u then y (ix3 b 0 0) else x (ix3 b t' u') := by
  have c0 := Host.clampedStart_of_le h.1 st 0 0 h0 (by simp [S8x1x1])
  have c1 := Host.clampedStart_of_le h.1 st 1 t h1 (by simpa [S8x1x1] using ht)
  have c2 := Host.clampedStart_of_le h.1 st 2 u h2 (by simpa [S8x1x1] using hu)
  rw [Host.dynamicUpdateSlice_apply]
  by_cases e : t'.val = t ∧ u'.val = u
  · have hin : ∀ a : Fin 3, Host.clampedStart _ S8x1x1 h.1 st a ≤ ((ix3 b t' u' : (⟨3, ![8, T, W]⟩ : Shape).Idx) a).val
        ∧ ((ix3 b t' u' : (⟨3, ![8, T, W]⟩ : Shape).Idx) a).val < Host.clampedStart _ S8x1x1 h.1 st a + S8x1x1.size (a.cast h.1.symm) := fun a => by
      match a with
      | ⟨0, _⟩ => exact ⟨c0.le.trans (Nat.zero_le _), lt_of_lt_of_eq (lt_of_lt_of_eq b.isLt (Nat.zero_add 8).symm) (congrArg (· + 8) c0).symm⟩
      | ⟨1, _⟩ => exact ⟨c1.le.trans e.1.ge, lt_of_lt_of_eq (Nat.lt_succ_of_le e.1.le) (congrArg (· + 1) c1).symm⟩
      | ⟨2, _⟩ => exact ⟨c2.le.trans e.2.ge, lt_of_lt_of_eq (Nat.lt_succ_of_le e.2.le) (congrArg (· + 1) c2).symm⟩
    rw [dif_pos hin, if_pos e]
    refine congrArg y (funext fun a => Fin.ext ?_)
    match a with
    | ⟨0, _⟩ => exact (congrArg (b.val - ·) c0).trans (Nat.sub_zero _)
    | ⟨1, _⟩ => exact Nat.lt_one_iff.mp (Fin.isLt _)
    | ⟨2, _⟩ => exact Nat.lt_one_iff.mp (Fin.isLt _)
  · rw [if_neg e, dif_neg]
    intro hin
    have i1 := hin 1
    have i2 := hin 2
    rw [c1] at i1
    rw [c2] at i2
    have j1 : t'.val < t + 1 := i1.2
    have j2 : u'.val < u + 1 := i2.2
    have k1 : t ≤ t'.val := i1.1
    have k2 : u ≤ u'.val := i2.1
    exact e ⟨by omega, by omega⟩

end Column

/-! ## One trip -/

theorem cmpi_zero (n : ℕ) (h : n < 512) : IntOp.cmpi .eq (BitVec.ofNat 32 n) 0#32 = if n = 0 then 1#1 else 0#1 := by
  show BitVec.ofBool (BitVec.ofNat 32 n == 0#32) = _
  by_cases e : n = 0
  · subst e; rfl
  · rw [if_neg e, beq_eq_false_iff_ne.mpr fun h => by
      have := congrArg BitVec.toNat h
      simp only [BitVec.toNat_ofNat] at this; omega]
    rfl

theorem toInt_word (n : ℕ) (h : n < 512) : (BitVec.ofNat 32 n).toInt = n := by
  rw [BitVec.toInt_ofNat', Int.bmod_def]; omega

theorem pred_word (n : ℕ) (h : n < 512) : (IntOp.subi (BitVec.ofNat 32 (n + 1)) 1#32).toInt = n := by
  rw [show IntOp.subi (BitVec.ofNat 32 (n + 1)) 1#32 = BitVec.ofNat 32 n from BitVec.eq_of_toNat_eq (by
    simp only [IntOp.subi, BitVec.toNat_sub, BitVec.toNat_ofNat]; omega), toInt_word n h]

/-- The buffers the loop carries, before trip `k`: every cell before the `k`-th holds its forward variable. -/
structure At (B : Batch) (k : ℕ) (Y : Valuation τ sig (Elt Ideal)) : Prop where
  count : (Y (Proc.devRef .tc main_v8_3) : IVec S_ 32) = fun _ => BitVec.ofNat 32 k
  blank : ∀ (b : Fin 8) (t : Fin 512) (u : Fin 65), (Y (Proc.devRef .tc main_v8_0) : FVec Ideal S8x512x65 .f32) (ix3 b t u) = ((B.bl b t u : ℝ) : EReal)
  emit : ∀ (b : Fin 8) (t : Fin 512) (u : Fin 64), (Y (Proc.devRef .tc main_v8_1) : FVec Ideal S8x512x64 .f32) (ix3 b t u) = ((B.em b t u : ℝ) : EReal)
  alpha : ∀ (b : Fin 8) (t : Fin 512) (u : Fin 65), t.val * 65 + u.val < k →
    (Y (Proc.devRef .tc main_v8_4) : FVec Ideal S8x512x65 .f32) (ix3 b t u) = ((B.fw b t u : ℝ) : EReal)

/-- The two ways into a trip's cell. -/
def noEmit (Y : Valuation τ sig (Elt Ideal)) (b : Fin 8) : EReal := (res_main_while0b_v29 Y : FVec Ideal S8x1x1 .f32) (ix3 b 0 0)
def emit (Y : Valuation τ sig (Elt Ideal)) (b : Fin 8) : EReal := (res_main_while0b_v34 Y : FVec Ideal S8x1x1 .f32) (ix3 b 0 0)

theorem une_self (a : Ideal .f32) : FloatOps.cmpf .une a a = 0#1 := by
  show BitVec.ofBool (decide (a ≠ a)) = 0#1
  simp

variable (B : Batch) (k : ℕ) (hk : k < 33280) (Y : Valuation τ sig (Elt Ideal)) (hY : At B k Y)

include hk hY

theorem row_eq : (res_main_while0b_v23 Y : IVec S_ 32) = fun _ => BitVec.ofNat 32 (k / 65) := by
  unfold res_main_while0b_v23
  rw [hY.count]
  exact funext fun _ => Routing.divsi_word .host (by omega) (by decide) (by decide)

theorem col_eq : (res_main_while0b_v24 Y : IVec S_ 32) = fun _ => BitVec.ofNat 32 (k % 65) := by
  unfold res_main_while0b_v24
  rw [hY.count]
  exact funext fun _ => Routing.remsi_word .host (by omega) (by decide) (by decide)

/-- Coming from the row before, by a blank. -/
theorem noEmit_apply (t u : ℕ) (ht : k / 65 = t + 1) (hu : k % 65 = u) (b : Fin 8) :
    noEmit Y b = ((B.fw b t u + B.bl b t u : ℝ) : EReal) := by
  unfold noEmit res_main_while0b_v29
  rw [row_eq B k hk Y hY, col_eq B k hk Y hY, ht, hu, EReal.coe_add,
    ← hY.alpha b ⟨t, by omega⟩ ⟨u, by omega⟩ (by show t * 65 + u < k; omega), ← hY.blank b ⟨t, by omega⟩ ⟨u, by omega⟩]
  exact congrArg₂ (fun p q : EReal => p + q)
    (column_apply _ _ _ t u (by omega) (by omega) rfl (pred_word t (by omega)) (toInt_word u (by omega)) b)
    (column_apply _ _ _ t u (by omega) (by omega) rfl (pred_word t (by omega)) (toInt_word u (by omega)) b)

/-- Coming from the column before, by a label. -/
theorem emit_apply (t u : ℕ) (ht : k / 65 = t) (hu : k % 65 = u + 1) (b : Fin 8) :
    emit Y b = ((B.fw b t u + B.em b t u : ℝ) : EReal) := by
  unfold emit res_main_while0b_v34
  rw [row_eq B k hk Y hY, col_eq B k hk Y hY, ht, hu, EReal.coe_add,
    ← hY.alpha b ⟨t, by omega⟩ ⟨u, by omega⟩ (by show t * 65 + u < k; omega), ← hY.emit b ⟨t, by omega⟩ ⟨u, by omega⟩]
  exact congrArg₂ (fun p q : EReal => p + q)
    (column_apply _ _ _ t u (by omega) (by omega) rfl (toInt_word t (by omega)) (pred_word u (by omega)) b)
    (column_apply _ _ _ t u (by omega) (by omega) rfl (toInt_word t (by omega)) (pred_word u (by omega)) b)

/-- One trip writes the next cell. -/
theorem step_at : At B (k + 1) (STEP Y) := by
  refine ⟨?_, fun b t u => ?_, fun b t u => ?_, fun b t u h => ?_⟩
  · rw [STEP_main_v8_3]
    unfold step_main_v8_3
    rw [hY.count]
    exact funext fun _ => BitVec.eq_of_toNat_eq (by
      show (BitVec.ofNat 32 k + 1#32).toNat = _
      simp only [BitVec.toNat_add, BitVec.toNat_ofNat]; omega)
  · rw [STEP_main_v8_0]; exact hY.blank b t u
  · rw [STEP_main_v8_1]; exact hY.emit b t u
  · rw [STEP_main_v8_4]
    unfold step_main_v8_4
    rw [row_eq B k hk Y hY, col_eq B k hk Y hY]
    refine (setColumn_apply _ _ _ _ (k / 65) (k % 65) (by omega) (by omega) rfl (toInt_word _ (by omega)) (toInt_word _ (by omega)) b t u).trans ?_
    split
    · rename_i e
      rw [e.1, e.2]
      show Scalar.select (IntOp.cmpi .eq (BitVec.ofNat 32 (k / 65)) 0#32)
        (Scalar.select (IntOp.cmpi .eq (BitVec.ofNat 32 (k % 65)) 0#32) (FloatOps.ofBits (F := Ideal) .f32 0#32) (emit Y b))
        (Scalar.select (IntOp.cmpi .eq (BitVec.ofNat 32 (k % 65)) 0#32) (noEmit Y b)
          (Scalar.select (FloatOps.cmpf (F := Ideal) (φ := .f32) .une (noEmit Y b - emit Y b) (noEmit Y b - emit Y b))
            (noEmit Y b + emit Y b)
            (max (noEmit Y b) (emit Y b)
              + Ideal.log1p (Ideal.exp (-max (noEmit Y b - emit Y b) (-(noEmit Y b - emit Y b))))))) = _
      rw [cmpi_zero _ (by omega), cmpi_zero _ (by omega)]
      rw [une_self]
      rcases ht : k / 65 with _ | t' <;> rcases hu : k % 65 with _ | u'
      · show FloatOps.ofBits (F := Ideal) .f32 0#32 = _
        rw [Batch.fw, forward_start]
        exact Ideal.ofBits_zero_f32
      · show emit Y b = _
        rw [emit_apply B k hk Y hY 0 u' ht hu, Batch.fw, Batch.fw, forward_first_row]
      · show noEmit Y b = _
        rw [noEmit_apply B k hk Y hY t' 0 ht hu, Batch.fw, Batch.fw, forward_first_column]
      · show max (noEmit Y b) (emit Y b)
          + Ideal.log1p (Ideal.exp (-max (noEmit Y b - emit Y b) (-(noEmit Y b - emit Y b)))) = _
        rw [noEmit_apply B k hk Y hY t' (u' + 1) ht hu, emit_apply B k hk Y hY (t' + 1) u' ht hu, logAddExp_coe_neg,
          Batch.fw, Batch.fw, Batch.fw, forward_inner]
    · rename_i e
      exact hY.alpha b t u (by omega)

end Cert.Transducer.Reference

end
-- ==== Proof.LogSoftmax.lean ====
/-
  The reference's log-softmax: what its operations leave, and on real logits the value of each entry.
-/
module

public import proofs.«01_k».proof.Proof.ReferenceLoop
public import Idealize.ShloMosaic.Lib.Pointwise

@[expose] public section

set_option maxRecDepth 16384

noncomputable section

namespace Cert.Transducer.Reference

open Cert.ReferenceIdeal Cert.ReferenceIdeal.Gen Cert.ReferenceIdeal.Value
open Idealize.ShloMosaic Idealize.ShloMosaic.TcCoe Idealize.SL.Sem
open Idealize.ShloMosaic.StableHlo

/-- The greatest logit of each cell, as the reference's log-softmax takes it. -/
def greatest (x : FVec Ideal S8x512x65x256 .f32) : FVec Ideal S8x512x65 .f32 :=
  maximumf (broadcastInDim S8x512x65 ![] bcast_S_S8x512x65 (constant S_ .f32 0xFF800000#32))
    (Host.reduce FloatOps.maximumf x (constant S_ .f32 0xFF800000#32) reducesTo_S8x512x65x256_S8x512x65_d3 h_S_)

/-- The logits less their cell's greatest. -/
def shifted (x : FVec Ideal S8x512x65x256 .f32) : FVec Ideal S8x512x65x256 .f32 :=
  subf x (broadcastInDim S8x512x65x256 ![0, 1, 2, 3] bcast_S8x512x65x1_S8x512x65x256_0_1_2_3
    (broadcastInDim S8x512x65x1 ![0, 1, 2] bcast_S8x512x65_S8x512x65x1_0_1_2 (greatest x)))

/-- The reference's log-probabilities. -/
def logProbs (x : FVec Ideal S8x512x65x256 .f32) : FVec Ideal S8x512x65x256 .f32 :=
  subf (shifted x) (broadcastInDim S8x512x65x256 ![0, 1, 2, 3] bcast_S8x512x65x1_S8x512x65x256_0_1_2_3
    (Host.log (broadcastInDim S8x512x65x1 ![0, 1, 2] bcast_S8x512x65_S8x512x65x1_0_1_2
      (Host.reduceAdd (Host.exp (shifted x)) (constant S_ .f32 0x00000000#32) reducesTo_S8x512x65x256_S8x512x65_d3 h_S_))))

variable (V : Valuation τ sig (Elt Ideal))

/-- What the log-softmax's operations leave, whatever its functions. -/
theorem after_softmax (bot zero : FVec Ideal S_ .f32) (red add : FVec Ideal S8x512x65x256 .f32 → FVec Ideal S_ .f32 → FVec Ideal S8x512x65 .f32)
    (fill : FVec Ideal S_ .f32 → FVec Ideal S8x512x65 .f32) (mx : FVec Ideal S8x512x65 .f32 → FVec Ideal S8x512x65 .f32 → FVec Ideal S8x512x65 .f32)
    (unit : FVec Ideal S8x512x65 .f32 → FVec Ideal S8x512x65x1 .f32) (spread : FVec Ideal S8x512x65x1 .f32 → FVec Ideal S8x512x65x256 .f32)
    (sub : FVec Ideal S8x512x65x256 .f32 → FVec Ideal S8x512x65x256 .f32 → FVec Ideal S8x512x65x256 .f32)
    (ex : FVec Ideal S8x512x65x256 .f32 → FVec Ideal S8x512x65x256 .f32) (lg : FVec Ideal S8x512x65x1 .f32 → FVec Ideal S8x512x65x1 .f32) :
    after ([ StableHlo.TRef.nullary (.of main_call0_cst : StableHlo.TRef sig ⟨S_, .f32⟩) bot,
    StableHlo.TRef.binary (.of main_arg0 : StableHlo.TRef sig ⟨S8x512x65x256, .f32⟩) (.of main_call0_cst : StableHlo.TRef sig ⟨S_, .f32⟩) (.of main_call0_v0 : StableHlo.TRef sig ⟨S8x512x65, .f32⟩) red,
    StableHlo.TRef.nullary (.of main_call0_cst_0 : StableHlo.TRef sig ⟨S_, .f32⟩) bot,
    StableHlo.TRef.unary (.of main_call0_cst_0 : StableHlo.TRef sig ⟨S_, .f32⟩) (.of main_call0_v1 : StableHlo.TRef sig ⟨S8x512x65, .f32⟩) fill,
    StableHlo.TRef.binary (.of main_call0_v1 : StableHlo.TRef sig ⟨S8x512x65, .f32⟩) (.of main_call0_v0 : StableHlo.TRef sig ⟨S8x512x65, .f32⟩) (.of main_call0_v2 : StableHlo.TRef sig ⟨S8x512x65, .f32⟩) mx,
    StableHlo.TRef.unary (.of main_call0_v2 : StableHlo.TRef sig ⟨S8x512x65, .f32⟩) (.of main_call0_v3 : StableHlo.TRef sig ⟨S8x512x65x1, .f32⟩) unit,
    StableHlo.TRef.unary (.of main_call0_v3 : StableHlo.TRef sig ⟨S8x512x65x1, .f32⟩) (.of main_call0_v4 : StableHlo.TRef sig ⟨S8x512x65x256, .f32⟩) spread,
    StableHlo.TRef.binary (.of main_arg0 : StableHlo.TRef sig ⟨S8x512x65x256, .f32⟩) (.of main_call0_v4 : StableHlo.TRef sig ⟨S8x512x65x256, .f32⟩) (.of main_call0_v5 : StableHlo.TRef sig ⟨S8x512x65x256, .f32⟩) sub,
    StableHlo.TRef.unary (.of main_call0_v5 : StableHlo.TRef sig ⟨S8x512x65x256, .f32⟩) (.of main_call0_v6 : StableHlo.TRef sig ⟨S8x512x65x256, .f32⟩) ex,
    StableHlo.TRef.nullary (.of main_call0_cst_1 : StableHlo.TRef sig ⟨S_, .f32⟩) zero,
    StableHlo.TRef.binary (.of main_call0_v6 : StableHlo.TRef sig ⟨S8x512x65x256, .f32⟩) (.of main_call0_cst_1 : StableHlo.TRef sig ⟨S_, .f32⟩) (.of main_call0_v7 : StableHlo.TRef sig ⟨S8x512x65, .f32⟩) add,
    StableHlo.TRef.unary (.of main_call0_v7 : StableHlo.TRef sig ⟨S8x512x65, .f32⟩) (.of main_call0_v8 : StableHlo.TRef sig ⟨S8x512x65x1, .f32⟩) unit,
    StableHlo.TRef.unary (.of main_call0_v8 : StableHlo.TRef sig ⟨S8x512x65x1, .f32⟩) (.of main_call0_v9 : StableHlo.TRef sig ⟨S8x512x65x1, .f32⟩) lg,
    StableHlo.TRef.unary (.of main_call0_v9 : StableHlo.TRef sig ⟨S8x512x65x1, .f32⟩) (.of main_call0_v10 : StableHlo.TRef sig ⟨S8x512x65x256, .f32⟩) spread,
    StableHlo.TRef.binary (.of main_call0_v5 : StableHlo.TRef sig ⟨S8x512x65x256, .f32⟩) (.of main_call0_v10 : StableHlo.TRef sig ⟨S8x512x65x256, .f32⟩) (.of main_v0 : StableHlo.TRef sig ⟨S8x512x65x256, .f32⟩) sub ] : List (HloOp τ sig (Elt Ideal))) V (Proc.devRef .tc main_v0)
      = (let x : FVec Ideal S8x512x65x256 .f32 := V (Proc.devRef .tc main_arg0)
        let y := sub x (spread (unit (mx (fill bot) (red x bot))))
        sub y (spread (lg (unit (add (ex y) zero))))) := by
  after_results_entrywise [cast_eq]

theorem after_logProbs : after hostOps0 V (Proc.devRef .tc main_v0) = logProbs (V (Proc.devRef .tc main_arg0)) :=
  after_softmax V _ _ (fun x v => Host.reduce FloatOps.maximumf x v reducesTo_S8x512x65x256_S8x512x65_d3 h_S_)
    (fun x v => Host.reduceAdd x v reducesTo_S8x512x65x256_S8x512x65_d3 h_S_)
    (broadcastInDim S8x512x65 ![] bcast_S_S8x512x65) maximumf (broadcastInDim S8x512x65x1 ![0, 1, 2] bcast_S8x512x65_S8x512x65x1_0_1_2)
    (broadcastInDim S8x512x65x256 ![0, 1, 2, 3] bcast_S8x512x65x1_S8x512x65x256_0_1_2_3) subf Host.exp Host.log

/-! ## On real logits -/

/-- The greatest of some reals, at least one of them, is a real. -/
theorem fold_max_real {ι : Type} [DecidableEq ι] (s : Finset ι) (g : ι → EReal) (hg : ∀ i ∈ s, ∃ r : ℝ, g i = r) (hs : s.Nonempty) :
    ∃ r : ℝ, s.fold max ⊥ g = r := by
  induction s using Finset.induction_on with
  | empty => exact absurd hs Finset.not_nonempty_empty
  | insert a s ha ih =>
    rw [Finset.fold_insert ha]
    obtain ⟨p, hp⟩ := hg a (Finset.mem_insert_self a s)
    rw [hp]
    rcases s.eq_empty_or_nonempty with rfl | h
    · exact ⟨p, by rw [Finset.fold_empty]; exact max_eq_left bot_le⟩
    · obtain ⟨q, hq⟩ := ih (fun i hi => hg i (Finset.mem_insert_of_mem hi)) h
      exact ⟨max p q, by rw [hq]; exact (EReal.coe_strictMono.monotone.map_max).symm⟩

theorem ofBits_bot : Ideal.ofBits .f32 0xFF800000#32 = ⊥ := by
  simp [Ideal.ofBits, Ideal.ieee]

/-- Along one axis, too. -/
theorem reduce_max_real {s t w : Shape} {a : Fin s.rank} (x : FVec Ideal s .f32) (init : FVec Ideal w .f32) (h' : s.ReducesTo [a] t)
    (h : s.Reduces [a] t) (hw : 0 < w.numel) (hi : ∀ i, init i = (⊥ : EReal)) (hn : 0 < s.size a)
    (hx : ∀ j, ∃ r : ℝ, x j = (r : EReal)) (j : t.Idx) :
    ∃ r : ℝ, Host.reduce (FloatOps.maximumf (F := Ideal) (φ := .f32)) x init h' hw j = (r : EReal) := by
  haveI : Std.Commutative (FloatOps.maximumf (F := Ideal) (φ := .f32)) := ⟨fun p q => max_comm (p : EReal) q⟩
  haveI : Std.Associative (FloatOps.maximumf (F := Ideal) (φ := .f32)) := ⟨fun p q r => max_assoc (p : EReal) q r⟩
  rw [Host.reduce_eq_fold_single FloatOps.maximumf x init h' h hw j, hi]
  exact fold_max_real _ _ (fun a _ => hx _) ⟨⟨0, hn⟩, Finset.mem_univ _⟩

theorem max_bot_real {s : Shape} (v w : FVec Ideal s .f32) (j : s.Idx) (hv : v j = (⊥ : EReal)) (hw : ∃ r : ℝ, w j = (r : EReal)) :
    ∃ r : ℝ, maximumf v w j = (r : EReal) := by
  obtain ⟨r, hr⟩ := hw
  exact ⟨r, (congrArg₂ (max : EReal → EReal → EReal) hv hr).trans (max_eq_right bot_le)⟩

theorem fill_bot (j : S8x512x65.Idx) :
    (broadcastInDim S8x512x65 ![] bcast_S_S8x512x65 (constant S_ .f32 0xFF800000#32) : FVec Ideal S8x512x65 .f32) j = (⊥ : EReal) :=
  ofBits_bot

variable (x : FVec Ideal S8x512x65x256 .f32) (f : ℕ → ℕ → ℕ → ℕ → ℝ)
  (hx : ∀ (b : Fin 8) (t : Fin 512) (u : Fin 65) (a : Fin 256), x (ix4 b t u a) = ((f b t u a : ℝ) : EReal))

include hx

theorem entry_real (j : S8x512x65x256.Idx) : ∃ r : ℝ, x j = (r : EReal) := by
  idx_vars j
  exact ⟨_, hx _ _ _ _⟩

theorem greatest_real (b : Fin 8) (t : Fin 512) (u : Fin 65) : ∃ r : ℝ, greatest x (ix3 b t u) = r :=
  max_bot_real _ _ _ (fill_bot _) (reduce_max_real x _ _ (by decide) h_S_ (fun _ => ofBits_bot) (by decide) (entry_real x f hx) _)

omit hx in
theorem shifted_apply (b : Fin 8) (t : Fin 512) (u : Fin 65) (a : Fin 256) :
    shifted x (ix4 b t u a) = x (ix4 b t u a) - greatest x (ix3 b t u) := by
  unfold shifted; pointwise

omit hx in
theorem logProbs_apply (b : Fin 8) (t : Fin 512) (u : Fin 65) (a : Fin 256) :
    logProbs x (ix4 b t u a) = shifted x (ix4 b t u a) - Ideal.log (∑ a' : Fin 256, Ideal.exp (shifted x (ix4 b t u a'))) := by
  unfold logProbs; pointwise

theorem logProbs_real (b : Fin 8) (t : Fin 512) (u : Fin 65) (a : Fin 256) :
    logProbs x (ix4 b t u a) = ((f b t u a - lseOf (f b t u) : ℝ) : EReal) := by
  obtain ⟨r, hr⟩ := greatest_real x f hx b t u
  have hs : ∀ a' : Fin 256, shifted x (ix4 b t u a') = ((f b t u a' - r : ℝ) : EReal) := fun a' => by
    rw [shifted_apply, hx, hr, EReal.coe_sub]
  have hp : (0 : ℝ) < ∑ a' : Fin 256, Real.exp (f b t u a' - r) :=
    Finset.sum_pos (fun _ _ => Real.exp_pos _) ⟨0, Finset.mem_univ _⟩
  rw [logProbs_apply, hs, Finset.sum_congr rfl (fun a' _ => by rw [hs a', Ideal.exp_coe]), coe_sum, log_coe_pos _ hp,
    ← EReal.coe_sub]
  refine congrArg (fun z : ℝ => (z : EReal)) ?_
  have e : (∑ a' : Fin 256, Real.exp (f b t u a' - r)) = Real.exp (-r) * ∑ a' : Fin 256, Real.exp (f b t u a') := by
    rw [Finset.mul_sum]
    exact Finset.sum_congr rfl fun a' _ => by rw [← Real.exp_add, neg_add_eq_sub]
  have hq : (0 : ℝ) < ∑ a' : Fin 256, Real.exp (f b t u a') :=
    Finset.sum_pos (fun _ _ => Real.exp_pos _) ⟨0, Finset.mem_univ _⟩
  rw [e, Real.log_mul (Real.exp_ne_zero _) hq.ne', Real.log_exp, lseOf, Finset.sum_range]
  ring

end Cert.Transducer.Reference

end
-- ==== Proof.Gathers.lean ====
/-
  The reference's two gathers, read at an index: the label's entry of each cell, and each sequence's last cell.
-/
module

public import proofs.«01_k».proof.Proof.Gen.ReferenceIdeal
public import Idealize.ShloMosaic.Lib.Pointwise

@[expose] public section

set_option maxRecDepth 16384

noncomputable section

namespace Cert.Transducer.Reference

open Cert.ReferenceIdeal Cert.ReferenceIdeal.Gen
open Idealize.ShloMosaic

variable {α : Type}

/-- The gather along the vocabulary. -/
abbrev alongVocab : GatherDims S8x512x64x256 S8x64x1x1 S8x512x64x1 :=
  gather_S8x512x64x256_S8x64x1x1_S8x512x64x1_1_3_02_01_3_3_151211

/-- The gather along the cells of a sequence. -/
abbrev alongCells : GatherDims S8x33280 S8x1x1 S8x1 := gather_S8x33280_S8x1x1_S8x1_n_1_0_0_1_2_11

theorem gather_vocab_apply (x : S8x512x64x256.Idx → α) (idx : IVec S8x64x1x1 32) (b : Fin 8) (t : Fin 512) (u : Fin 64) (n : Fin 256)
    (hn : (idx (ix4 b u 0 0)).toInt = (n.val : ℤ)) : Host.gather alongVocab x idx (ix4 b t u 0) = x (ix4 b t u n) := by
  unfold Host.gather
  refine congrArg x (funext fun a => Fin.ext ?_)
  show alongVocab.start (ix4 b t u 0) idx a + alongVocab.batchCoord (ix4 b t u 0) a + alongVocab.offCoord (ix4 b t u 0) a = _
  obtain rfl | rfl | rfl | rfl : a = (0 : Fin 4) ∨ a = (1 : Fin 4) ∨ a = (2 : Fin 4) ∨ a = (3 : Fin 4) := by
    revert a; decide
  · rw [GatherDims.start_batching _ _ _ _ (by decide), GatherDims.offCoord_eq_zero _ _ _ (by decide)]
    unfold GatherDims.batchCoord
    rw [dif_pos (by decide)]
    exact Nat.zero_add _
  · rw [GatherDims.batchCoord_eq_zero _ _ _ (by decide)]
    unfold GatherDims.start GatherDims.offCoord
    rw [dif_neg (by decide), dif_pos (by decide)]
    exact Nat.zero_add _
  · rw [GatherDims.start_batching _ _ _ _ (by decide), GatherDims.offCoord_eq_zero _ _ _ (by decide)]
    unfold GatherDims.batchCoord
    rw [dif_pos (by decide)]
    exact Nat.zero_add _
  · rw [GatherDims.batchCoord_eq_zero _ _ _ (by decide), GatherDims.offCoord_eq_zero _ _ _ (by decide)]
    unfold GatherDims.start
    rw [dif_pos (by decide)]
    have hs : alongVocab.siIdx (ix4 b t u 0) ⟨List.idxOf (3 : Fin 4) alongVocab.startIndexMap, by decide⟩ = ix4 b u 0 0 := by
      funext c; refine Fin.ext ?_
      match c with
      | ⟨0, _⟩ => rfl
      | ⟨1, _⟩ => rfl
      | ⟨2, _⟩ => rfl
      | ⟨3, _⟩ => rfl
    refine (congrArg (fun j => min (idx j).toInt.toNat 255) hs).trans ?_
    rw [hn, Int.toNat_natCast]
    exact Nat.min_eq_left (Nat.le_of_lt_succ n.isLt)

theorem gather_cells_apply (x : S8x33280.Idx → α) (idx : IVec S8x1x1 32) (b : Fin 8) (n : Fin 33280)
    (hn : (idx (ix3 b 0 0)).toInt = (n.val : ℤ)) : Host.gather alongCells x idx (ix2 b 0) = x (ix2 b n) := by
  unfold Host.gather
  refine congrArg x (funext fun a => Fin.ext ?_)
  show alongCells.start (ix2 b 0) idx a + alongCells.batchCoord (ix2 b 0) a + alongCells.offCoord (ix2 b 0) a = _
  obtain rfl | rfl : a = (0 : Fin 2) ∨ a = (1 : Fin 2) := by
    revert a; decide
  · rw [GatherDims.start_batching _ _ _ _ (by decide), GatherDims.offCoord_eq_zero _ _ _ (by decide)]
    unfold GatherDims.batchCoord
    rw [dif_pos (by decide)]
    exact Nat.zero_add _
  · rw [GatherDims.batchCoord_eq_zero _ _ _ (by decide), GatherDims.offCoord_eq_zero _ _ _ (by decide)]
    unfold GatherDims.start
    rw [dif_pos (by decide)]
    have hs : alongCells.siIdx (ix2 b 0) ⟨List.idxOf (1 : Fin 2) alongCells.startIndexMap, by decide⟩ = ix3 b 0 0 := by
      funext c; refine Fin.ext ?_
      match c with
      | ⟨0, _⟩ => rfl
      | ⟨1, _⟩ => rfl
      | ⟨2, _⟩ => rfl
    refine (congrArg (fun j => min (idx j).toInt.toNat 33279) hs).trans ?_
    rw [hn, Int.toNat_natCast]
    exact Nat.min_eq_left (Nat.le_of_lt_succ n.isLt)

end Cert.Transducer.Reference

end
-- ==== Proof.ReferenceValue.lean ====
/-
  The reference's value on a batch of real logits: the loop's entry, its exit, and the loss read off it.
-/
module

public import proofs.«01_k».proof.Proof.LogSoftmax
public import proofs.«01_k».proof.Proof.Gathers
public import proofs.«01_k».proof.Proof.KernelValue

@[expose] public section

set_option maxRecDepth 16384

noncomputable section

namespace Cert.Transducer.Reference

open Cert.ReferenceIdeal Cert.ReferenceIdeal.Gen Cert.ReferenceIdeal.Value
open Idealize.ShloMosaic Idealize.ShloMosaic.TcCoe Idealize.SL.Sem
open Idealize.ShloMosaic.StableHlo

/-! ## The operations before the loop, stretch by stretch -/

section Before
variable (V : Valuation τ sig (Elt Ideal))

theorem blank_read : (after hostOps0_1 V (Proc.devRef .tc main_v2) : FVec Ideal S8x512x65 .f32)
    = shapeCast S8x512x65 (extractStridedSlice S8x512x65x1 ![0, 0, 0, 0] (V (Proc.devRef .tc main_v0) : FVec Ideal S8x512x65x256 .f32)
        slices_S8x512x65x256_S8x512x65x1_0_0_0_0) shapeCasts_S8x512x65x1_S8x512x65 := by
  after_results_entrywise [cast_eq]

theorem labelled_read : (after hostOps0_1 V (Proc.devRef .tc main_v3) : FVec Ideal S8x512x64x256 .f32)
    = extractStridedSlice S8x512x64x256 ![0, 0, 0, 0] (V (Proc.devRef .tc main_v0) : FVec Ideal S8x512x65x256 .f32)
        slices_S8x512x65x256_S8x512x64x256_0_0_0_0 := by
  after_results_entrywise [cast_eq]

theorem labels_read : (after hostOps0_1 V (Proc.devRef .tc main_v4) : IVec S8x1x64x1 32)
    = broadcastInDim S8x1x64x1 ![0, 2] bcast_S8x64_S8x1x64x1_0_2 (V (Proc.devRef .tc main_arg1) : IVec S8x64 32) := by
  after_results_entrywise [cast_eq]

theorem picked_read : (after hostOps0_2 V (Proc.devRef .tc main_v5) : FVec Ideal S8x512x64x1 .f32)
    = Host.gather alongVocab (V (Proc.devRef .tc main_v3) : FVec Ideal S8x512x64x256 .f32)
        (shapeCast S8x64x1x1 (V (Proc.devRef .tc main_v4) : IVec S8x1x64x1 32) shapeCasts_S8x1x64x1_S8x64x1x1) := by
  after_results_entrywise [cast_eq]

theorem start_blank_read : (after hostOps0_3 V (Proc.devRef .tc main_v8_0) : FVec Ideal S8x512x65 .f32) = V (Proc.devRef .tc main_v2) := by
  after_results_entrywise [cast_eq]

theorem start_emit_read : (after hostOps0_3 V (Proc.devRef .tc main_v8_1) : FVec Ideal S8x512x64 .f32)
    = shapeCast S8x512x64 (V (Proc.devRef .tc main_v5) : FVec Ideal S8x512x64x1 .f32) shapeCasts_S8x512x64x1_S8x512x64 := by
  after_results_entrywise [cast_eq]

theorem start_count_read : (after hostOps0_3 V (Proc.devRef .tc main_v8_3) : IVec S_ 32) = constantI S_ 32 0#32 := by
  after_results_entrywise [cast_eq]

end Before

/-! ## The operations after it -/

section After
variable (V : Valuation τ sig (Elt Ideal))

theorem cell_read : (after hostOps0_4 V (Proc.devRef .tc main_v14) : IVec S8x1 32)
    = broadcastInDim S8x1 ![0] bcast_S8_S8x1_0 (addi (muli (subi (V (Proc.devRef .tc main_arg2) : IVec S8 32)
        (broadcastInDim S8 ![] bcast_S_S8 (constantI S_ 32 1#32))) (broadcastInDim S8 ![] bcast_S_S8 (constantI S_ 32 65#32)))
        (V (Proc.devRef .tc main_arg3) : IVec S8 32)) := by
  after_results_entrywise [cast_eq]

theorem cells_read : (after hostOps0_4 V (Proc.devRef .tc main_v16) : FVec Ideal S8x33280 .f32)
    = (shapeCast S8x33280 (addf (V (Proc.devRef .tc main_v8_4) : FVec Ideal S8x512x65 .f32) (V (Proc.devRef .tc main_v2) : FVec Ideal S8x512x65 .f32))
        shapeCasts_S8x512x65_S8x33280 : FVec Ideal S8x33280 .f32) := by
  after_results_entrywise [cast_eq]

theorem last_read : (after hostOps0_5 V (Proc.devRef .tc main_v17) : FVec Ideal S8x1 .f32)
    = Host.gather alongCells (V (Proc.devRef .tc main_v16) : FVec Ideal S8x33280 .f32)
        (shapeCast S8x1x1 (V (Proc.devRef .tc main_v14) : IVec S8x1 32) shapeCasts_S8x1_S8x1x1) := by
  after_results_entrywise [cast_eq]

theorem loss_read : (after hostOps0_6 V (Proc.devRef .tc main_v21) : FVec Ideal S1x1 .f32)
    = (shapeCast S1x1 (Host.divf (Host.reduceAdd (Host.negf (V (Proc.devRef .tc main_v17) : FVec Ideal S8x1 .f32))
        (constant S_ .f32 0x00000000#32) reducesTo_S8x1_S_d0_1 h_S_) (constant S_ .f32 0x41000000#32)) shapeCasts_S_S1x1 : FVec Ideal S1x1 .f32) := by
  after_results_entrywise [cast_eq]

end After

/-! ## Read at an index -/

theorem blanks_apply (p : FVec Ideal S8x512x65x256 .f32) (b : Fin 8) (t : Fin 512) (u : Fin 65) :
    (shapeCast S8x512x65 (extractStridedSlice S8x512x65x1 ![0, 0, 0, 0] p slices_S8x512x65x256_S8x512x65x1_0_0_0_0)
      shapeCasts_S8x512x65x1_S8x512x65 : FVec Ideal S8x512x65 .f32) (ix3 b t u) = p (ix4 b t u 0) := by
  pointwise

theorem labelled_apply (p : FVec Ideal S8x512x65x256 .f32) (b : Fin 8) (t : Fin 512) (u : Fin 64) (a : Fin 256) :
    (extractStridedSlice S8x512x64x256 ![0, 0, 0, 0] p slices_S8x512x65x256_S8x512x64x256_0_0_0_0 : FVec Ideal S8x512x64x256 .f32) (ix4 b t u a)
      = p (ix4 b t ⟨u.val, by omega⟩ a) := by
  pointwise

theorem labels_apply (l : IVec S8x64 32) (b : Fin 8) (u : Fin 64) :
    (shapeCast S8x64x1x1 (broadcastInDim S8x1x64x1 ![0, 2] bcast_S8x64_S8x1x64x1_0_2 l) shapeCasts_S8x1x64x1_S8x64x1x1 : IVec S8x64x1x1 32)
      (ix4 b u 0 0) = l (ix2 b u) := by
  pointwise

theorem picked_apply (g : FVec Ideal S8x512x64x1 .f32) (b : Fin 8) (t : Fin 512) (u : Fin 64) :
    (shapeCast S8x512x64 g shapeCasts_S8x512x64x1_S8x512x64 : FVec Ideal S8x512x64 .f32) (ix3 b t u) = g (ix4 b t u 0) := by
  pointwise

theorem cell_apply (T U : IVec S8 32) (b : Fin 8) :
    (shapeCast S8x1x1 (broadcastInDim S8x1 ![0] bcast_S8_S8x1_0 (addi (muli (subi T
        (broadcastInDim S8 ![] bcast_S_S8 (constantI S_ 32 1#32))) (broadcastInDim S8 ![] bcast_S_S8 (constantI S_ 32 65#32))) U))
        shapeCasts_S8x1_S8x1x1 : IVec S8x1x1 32) (ix3 b 0 0)
      = IntOp.addi (IntOp.muli (IntOp.subi (T (ix1 b)) 1#32) 65#32) (U (ix1 b)) := by
  pointwise

theorem cells_apply (p q : FVec Ideal S8x512x65 .f32) (b : Fin 8) (t : Fin 512) (u : Fin 65) :
    (shapeCast S8x33280 (addf p q) shapeCasts_S8x512x65_S8x33280 : FVec Ideal S8x33280 .f32)
      (ix2 b ⟨t.val * 65 + u.val, by omega⟩) = p (ix3 b t u) + q (ix3 b t u) := by
  pointwise

theorem loss_apply (p : FVec Ideal S8x1 .f32) :
    (shapeCast S1x1 (Host.divf (Host.reduceAdd (Host.negf p)
        (constant S_ .f32 0x00000000#32) reducesTo_S8x1_S_d0_1 h_S_) (constant S_ .f32 0x41000000#32)) shapeCasts_S_S1x1 : FVec Ideal S1x1 .f32)
      = fun _ => Ideal.div (∑ b : Fin 8, - p (ix2 b 0)) (Ideal.ofBits .f32 0x41000000#32) := by
  funext j
  idx_vars j
  pointwise
  exact congrArg (Ideal.div · _) (Finset.sum_congr rfl fun b _ => Fin.sum_univ_one _)

/-- A sequence's last cell, as the word the reference computes. -/
theorem cell_word (t u : ℕ) (ht : t < 512) (hu : u < 65) :
    (IntOp.addi (IntOp.muli (IntOp.subi (BitVec.ofNat 32 (t + 1)) 1#32) 65#32) (BitVec.ofNat 32 u)).toInt = ((t * 65 + u : ℕ) : ℤ) := by
  rw [show IntOp.addi (IntOp.muli (IntOp.subi (BitVec.ofNat 32 (t + 1)) 1#32) 65#32) (BitVec.ofNat 32 u) = BitVec.ofNat 32 (t * 65 + u) from
    BitVec.eq_of_toNat_eq (by
      simp only [IntOp.addi, IntOp.muli, IntOp.subi, BitVec.toNat_add, BitVec.toNat_mul, BitVec.toNat_sub, BitVec.toNat_ofNat]; omega),
    BitVec.toInt_ofNat', Int.bmod_def]
  omega

theorem eight : Ideal.ofBits .f32 0x41000000#32 = ((8 : ℝ) : EReal) := by
  simp [Ideal.ofBits, Ideal.ieee, -EReal.coe_mul]; norm_num

/-! ## On a batch of real logits -/

variable (m : (l : Loc nD τ sig) → l.ty.Contents (Elt Ideal)) (c : Dev nD) (B : Batch)
  (hB : B.In (m ((c.tc : Thread nD τ).loc main_arg0)) (m ((c.tc : Thread nD τ).loc main_arg1))
    (m ((c.tc : Thread nD τ).loc main_arg2)) (m ((c.tc : Thread nD τ).loc main_arg3)))

/-- What the buffers hold after the log-softmax, after the slices, after the gather. -/
def scored : Valuation τ sig (Elt Ideal) := after hostOps0 (launchContents m c)
def sliced : Valuation τ sig (Elt Ideal) := after hostOps0_1 (scored m c)
def picked : Valuation τ sig (Elt Ideal) := after hostOps0_2 (sliced m c)

theorem entry_eq : entryContents preI m c = after hostOps0_3 (picked m c) := rfl

include hB

theorem scored_apply (b : Fin 8) (t : Fin 512) (u : Fin 65) (a : Fin 256) :
    (scored m c (Proc.devRef .tc main_v0) : FVec Ideal S8x512x65x256 .f32) (ix4 b t u a) = ((B.x b t u a - lseOf (B.x b t u) : ℝ) : EReal) := by
  unfold scored
  rw [after_logProbs]
  exact logProbs_real _ B.x hB.x b t u a

theorem sliced_blank (b : Fin 8) (t : Fin 512) (u : Fin 65) :
    (sliced m c (Proc.devRef .tc main_v2) : FVec Ideal S8x512x65 .f32) (ix3 b t u) = ((B.bl b t u : ℝ) : EReal) := by
  unfold sliced
  rw [blank_read, blanks_apply, scored_apply m c B hB]
  rfl

theorem picked_blank (b : Fin 8) (t : Fin 512) (u : Fin 65) :
    (picked m c (Proc.devRef .tc main_v2) : FVec Ideal S8x512x65 .f32) (ix3 b t u) = ((B.bl b t u : ℝ) : EReal) := by
  unfold picked
  rw [after_of_writes_sub _ _ hostOps0_2_writes (by decide)]
  exact sliced_blank m c B hB b t u

theorem scored_labels : scored m c (Proc.devRef .tc main_arg1) = m ((c.tc : Thread nD τ).loc main_arg1) := by
  unfold scored
  rw [after_of_writes_sub _ _ hostOps0_writes (by decide)]

theorem picked_emit (b : Fin 8) (t : Fin 512) (u : Fin 64) :
    (picked m c (Proc.devRef .tc main_v5) : FVec Ideal S8x512x64x1 .f32) (ix4 b t u 0) = ((B.em b t u : ℝ) : EReal) := by
  have hl := B.lab_lt b u
  unfold picked
  rw [picked_read, gather_vocab_apply _ _ b t u ⟨B.lab b u, hl⟩]
  · unfold sliced
    rw [labelled_read, labelled_apply, scored_apply m c B hB]
    rfl
  · unfold sliced
    rw [labels_read, labels_apply, scored_labels m c B hB, hB.labels]
    exact toInt_word _ (by omega)

theorem entry_at : At B 0 (entryContents preI m c) where
  count := by rw [entry_eq, start_count_read]; rfl
  blank b t u := by rw [entry_eq, start_blank_read]; exact picked_blank m c B hB b t u
  emit b t u := by rw [entry_eq, start_emit_read, picked_apply]; exact picked_emit m c B hB b t u
  alpha _ _ _ h := absurd h (Nat.not_lt_zero _)

theorem trips_at : ∀ k, k ≤ 33280 → At B k (STEP^[k] (entryContents preI m c))
  | 0, _ => entry_at m c B hB
  | k + 1, h => by
    rw [Function.iterate_succ_apply']
    exact step_at B k h _ (trips_at k (by omega))

theorem left_alpha (b : Fin 8) (t : Fin 512) (u : Fin 65) :
    (leftWith m c (Proc.devRef .tc main_v8_4) : FVec Ideal S8x512x65 .f32) (ix3 b t u) = ((B.fw b t u : ℝ) : EReal) := by
  have h : leftWith m c (Proc.devRef .tc main_v8_4) = STEP^[33280] (entryContents preI m c) (Proc.devRef .tc main_v8_4) :=
    (cond_keeps _ main_v8_4 (by decide)).trans (atK_agree m c 33280 main_v8_4 (by decide))
  rw [h]
  exact (trips_at m c B hB 33280 le_rfl).alpha b t u (by omega)

omit hB in
theorem left_keeps (r : Ref sig .tc) (h : r ∉ tripWrites) : leftWith m c (Proc.devRef .tc r) = entryContents preI m c (Proc.devRef .tc r) := by
  unfold leftWith
  rw [after_of_writes_sub _ _ condOps_writes (fun h' => h (List.mem_append_right _ h')), trips_keep m c r h]

theorem left_blank (b : Fin 8) (t : Fin 512) (u : Fin 65) :
    (leftWith m c (Proc.devRef .tc main_v2) : FVec Ideal S8x512x65 .f32) (ix3 b t u) = ((B.bl b t u : ℝ) : EReal) := by
  rw [left_keeps m c main_v2 (by decide), entry_eq, after_of_writes_sub _ _ hostOps0_3_writes (by decide)]
  exact picked_blank m c B hB b t u

theorem last_apply (b : Fin 8) :
    (after hostOps0_5 (after hostOps0_4 (leftWith m c)) (Proc.devRef .tc main_v17) : FVec Ideal S8x1 .f32) (ix2 b 0) = ((B.ll b : ℝ) : EReal) := by
  have hT := B.L_lt b
  have hU := B.U_lt b
  rw [last_read, gather_cells_apply _ _ b ⟨B.L b * 65 + B.U b, by omega⟩]
  · rw [cells_read, cells_apply _ _ b ⟨B.L b, hT⟩ ⟨B.U b, hU⟩, left_alpha m c B hB, left_blank m c B hB, ← EReal.coe_add]
    rfl
  · rw [cell_read, cell_apply, left_keeps m c main_arg2 (by decide), left_keeps m c main_arg3 (by decide),
      before_keeps m c main_arg2 (by decide), before_keeps m c main_arg3 (by decide), hB.T, hB.U]
    exact cell_word (B.L b) (B.U b) hT hU

/-- The reference's result is the batch's loss. -/
theorem reference_value : (finalContents condOps preI bodyI postI 33280 m c (Proc.devRef .tc main_v21) : FVec Ideal S1x1 .f32)
    = fun _ => ((B.loss : ℝ) : EReal) := by
  show (after hostOps0_6 (after hostOps0_5 (after hostOps0_4 (leftWith m c))) (Proc.devRef .tc main_v21) : FVec Ideal S1x1 .f32) = _
  rw [loss_read, loss_apply, Finset.sum_congr rfl (fun b _ => by rw [last_apply m c B hB b, ← EReal.coe_neg]), coe_sum, eight,
    Ideal.div_coe (by norm_num)]
  refine funext fun _ => ?_
  rw [← EReal.coe_mul]
  refine congrArg (fun z : ℝ => (z : EReal)) ?_
  rw [Batch.loss, Finset.sum_neg_distrib]
  ring

end Cert.Transducer.Reference

end
-- ==== Proof.Range.lean ====
/-
  The precondition read back: arguments in range hold a batch of real logits.
-/
module

public import proofs.«01_k».proof.Proof.KernelValue
public import proofs.«01_k».proof.Proof.Gen.Pre_in_range
public import Idealize.ShloMosaic.Lib.ReduceAll

@[expose] public section

set_option maxRecDepth 16384

noncomputable section

namespace Cert.Transducer.Range

open Cert.Pre_in_range Cert.Pre_in_range.Gen
open Idealize.ShloMosaic

instance : Subsingleton S_.Idx := ⟨fun _ _ => funext fun a => a.elim0⟩

/-- A number smaller in magnitude than plus infinity is real. -/
theorem real_of_finite (z : EReal) (h : FloatOps.cmpf (F := Ideal) (φ := .f32) .olt (max z (-z)) (Ideal.ofBits .f32 0x7F800000#32) = 1#1) :
    z = ((z.toReal : ℝ) : EReal) := by
  have top : Ideal.ofBits .f32 0x7F800000#32 = ⊤ := by simp [Ideal.ofBits, Ideal.ieee]
  have h' : BitVec.ofBool (decide (max z (-z) < (⊤ : EReal))) = 1#1 := by rw [← top]; exact h
  have lt : max z (-z) < ⊤ := by
    by_contra hn
    rw [decide_eq_false hn] at h'
    exact absurd h' (by decide)
  refine (EReal.coe_toReal (fun e => ?_) (fun e => ?_)).symm
  · subst e; exact absurd lt (by simp)
  · subst e; exact absurd lt (by simp)

/-- A word whose signed value is a natural number is that number's word. -/
theorem word_of_toInt (w : BitVec 32) (n : ℕ) (h : w.toInt = (n : ℤ)) : w = BitVec.ofNat 32 n := by
  apply BitVec.eq_of_toInt_eq
  have := BitVec.toInt_lt (x := w)
  rw [h, BitVec.toInt_ofNat', Int.bmod_def]
  omega

variable (x : FVec Ideal S8x512x65x256 .f32) (labels : IVec S8x64 32) (T U : IVec S8 32)
  (h : fn (F := Ideal) x labels T U = fun _ => 1#1)

include h

/-- What the precondition says of each argument. -/
theorem unpacked : (∀ i, x i = (((x i : EReal).toReal : ℝ) : EReal)) ∧ (∀ i, 0 ≤ (labels i).toInt ∧ (labels i).toInt < 256)
    ∧ (∀ i, 1 ≤ (T i).toInt ∧ (T i).toInt ≤ 512) ∧ ∀ i, 0 ≤ (U i).toInt ∧ (U i).toInt < 65 := by
  have h0 := congrFun h (fun a => a.elim0)
  unfold fn fn_part1 at h0
  obtain ⟨h1, hU⟩ := IntOp.andi_eq_one.1 h0
  obtain ⟨h2, hT⟩ := IntOp.andi_eq_one.1 h1
  obtain ⟨hx, hl⟩ := IntOp.andi_eq_one.1 h2
  refine ⟨fun i => real_of_finite _ (Host.reduce_andi_all _ _ _ _ _ hx i), fun i => ?_, fun i => ?_, fun i => ?_⟩
  · obtain ⟨p, q⟩ := IntOp.andi_eq_one.1 (Host.reduce_andi_all _ _ _ _ _ hl i)
    exact ⟨IntOp.cmpi_sge.1 p, IntOp.cmpi_slt.1 q⟩
  · obtain ⟨p, q⟩ := IntOp.andi_eq_one.1 (Host.reduce_andi_all _ _ _ _ _ hT i)
    exact ⟨IntOp.cmpi_sge.1 p, IntOp.cmpi_sle.1 q⟩
  · obtain ⟨p, q⟩ := IntOp.andi_eq_one.1 (Host.reduce_andi_all _ _ _ _ _ hU i)
    exact ⟨IntOp.cmpi_sge.1 p, IntOp.cmpi_slt.1 q⟩

/-- Arguments in range hold a batch. -/
theorem batch : ∃ B : Batch, B.In x labels T U := by
  obtain ⟨hx, hl, hT, hU⟩ := unpacked x labels T U h
  refine ⟨{ x := fun b t u a => (x (ix4 (Fin.ofNat 8 b) (Fin.ofNat 512 t) (Fin.ofNat 65 u) (Fin.ofNat 256 a)) : EReal).toReal
            lab := fun b u => (labels (ix2 (Fin.ofNat 8 b) (Fin.ofNat 64 u))).toInt.toNat
            L := fun b => (T (ix1 (Fin.ofNat 8 b))).toInt.toNat - 1
            U := fun b => (U (ix1 (Fin.ofNat 8 b))).toInt.toNat
            lab_lt := fun b u => by have := hl (ix2 (Fin.ofNat 8 b) (Fin.ofNat 64 u)); omega
            L_lt := fun b => by have := hT (ix1 (Fin.ofNat 8 b)); omega
            U_lt := fun b => by have := hU (ix1 (Fin.ofNat 8 b)); omega },
    ⟨fun b t u a => ?_, fun b u => ?_, fun b => ?_, fun b => ?_⟩⟩
  · show _ = (((x (ix4 (Fin.ofNat 8 b.val) (Fin.ofNat 512 t.val) (Fin.ofNat 65 u.val) (Fin.ofNat 256 a.val)) : EReal).toReal : ℝ) : EReal)
    rw [Fin.ofNat_val_eq_self, Fin.ofNat_val_eq_self, Fin.ofNat_val_eq_self, Fin.ofNat_val_eq_self]
    exact hx _
  · show _ = BitVec.ofNat 32 (labels (ix2 (Fin.ofNat 8 b.val) (Fin.ofNat 64 u.val))).toInt.toNat
    rw [Fin.ofNat_val_eq_self, Fin.ofNat_val_eq_self]
    exact word_of_toInt _ _ (by have := hl (ix2 b u); omega)
  · show _ = BitVec.ofNat 32 ((T (ix1 (Fin.ofNat 8 b.val))).toInt.toNat - 1 + 1)
    rw [Fin.ofNat_val_eq_self]
    exact word_of_toInt _ _ (by have := hT (ix1 b); omega)
  · show _ = BitVec.ofNat 32 (U (ix1 (Fin.ofNat 8 b.val))).toInt.toNat
    rw [Fin.ofNat_val_eq_self]
    exact word_of_toInt _ _ (by have := hU (ix1 b); omega)

end Cert.Transducer.Range

end
-- ==== Proof.lean ====
/-
  The proof of `Cert.Claim`: the three programs' frames, the named constant, and the equality of the kernel's and the
  reference's results over the extended reals, on arguments in range. Both results are the batch's transducer loss
  (`Batch.loss`): the kernel's by `kernel_value`, the reference's by `reference_value`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Original
public import proofs.«01_k».proof.Proof.Region
public import proofs.«01_k».proof.Proof.ReferenceFrame
public import proofs.«01_k».proof.Proof.KernelValue
public import proofs.«01_k».proof.Proof.ReferenceValue
public import proofs.«01_k».proof.Proof.Range
public import Idealize.ShloMosaic.Adequacy
public import Idealize.ShloMosaic.Init

@[expose] public section

noncomputable section

namespace Cert.Proof

open Idealize.ShloMosaic Idealize.SL.Sem Cert.Kernel

/-- The named constant is minus infinity by the certificate's table. -/
theorem preserves : Cert.preserves_Kernel_KernelIdeal :=
  IdealRules.named_const.statement Cert.KernelIdeal.κ "neg" .f32 0xF149F2CA#32 ⊥ rfl

/-- On arguments in range the kernel and the reference both return the batch's loss. -/
theorem algebraic : Cert.algebraic_KernelIdeal_ReferenceIdeal_pre_in_range := by
  intro m g m' g' hpre hargs
  have hb := fun c => Cert.Transducer.Range.batch _ _ _ _ (hpre c)
  choose B hB using hb
  have hB' : ∀ c, (B c).In (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) := fun c => by
    obtain ⟨h0, h1, h2, h3⟩ := hargs c
    rw [h0, h1, h2, h3]
    exact hB c
  refine ⟨fun c _ => (((B c).loss : ℝ) : EReal), ?_, ?_⟩
  · exact θ_run_mono (θ_run_and (Cert.Transducer.kernel_run m g) (Cert.Transducer.kernel_frame m g)) fun r h c =>
      ⟨Cert.Transducer.kernel_value m c (B c) (hB c) g r h.1.1, h.2.1 c⟩
  · exact θ_run_mono (Cert.Transducer.Reference.run m' g') fun r h c =>
      ⟨(h c).1.trans (Cert.Transducer.Reference.reference_value m' c (B c) (hB' c)), (h c).2⟩

theorem claim : Cert.Claim := ⟨Cert.Kernel.Gen.facts, Cert.KernelIdeal.Gen.facts, Cert.ReferenceIdeal.Gen.facts,
  Cert.Pre_in_range.Gen.facts,
  fun m g _ => Cert.Transducer.Original.frame m g,
  fun m g _ => Cert.Transducer.kernel_frame m g,
  fun m g _ => Cert.Transducer.kernel_frame m g,
  fun m g _ => Cert.Transducer.Reference.frame m g,
  fun m g _ => Cert.Transducer.Reference.frame m g,
  preserves,
  algebraic⟩

end Cert.Proof

end
